-- ==== Defs.lean ====
def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts) (hPre_gate_finite : Cert.Pre_gate_finite.Facts),
    quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ algebraic_KernelIdeal_ReferenceIdeal_pre_gate_finite (hKernelIdeal := hKernelIdeal) (hReferenceIdeal := hReferenceIdeal) (hPre_gate_finite := hPre_gate_finite)
-- ==== Pre_gate_finite.lean ====
abbrev S32x64x3x128 : Shape := ⟨4, ![32, 64, 3, 128]⟩
abbrev S32x1 : Shape := ⟨2, ![32, 1]⟩
abbrev S32x4096 : Shape := ⟨2, ![32, 4096]⟩
abbrev S4097x2048 : Shape := ⟨2, ![4097, 2048]⟩
abbrev S2048 : Shape := ⟨1, ![2048]⟩
abbrev S2048x8 : Shape := ⟨2, ![2048, 8]⟩
abbrev S8 : Shape := ⟨1, ![8]⟩
abbrev S8x384x1024 : Shape := ⟨3, ![8, 384, 1024]⟩
abbrev S8x1024 : Shape := ⟨2, ![8, 1024]⟩
abbrev S384x1024 : Shape := ⟨2, ![384, 1024]⟩
abbrev S1024 : Shape := ⟨1, ![1024]⟩
abbrev S_ : Shape := ⟨0, ![]⟩

class Facts : Prop where
  bcast_S_S32x1 : S_.BroadcastsInDim S32x1 (![] : Fin 0 → Fin S32x1.rank)
  reducesTo_S32x1_S_d0_1 : S32x1.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4097x2048 : S_.BroadcastsInDim S4097x2048 (![] : Fin 0 → Fin S4097x2048.rank)
  reducesTo_S4097x2048_S_d0_1 : S4097x2048.ReducesTo [0, 1] S_
  bcast_S_S2048 : S_.BroadcastsInDim S2048 (![] : Fin 0 → Fin S2048.rank)
  reducesTo_S2048_S_d0 : S2048.ReducesTo [0] S_
  bcast_S_S2048x8 : S_.BroadcastsInDim S2048x8 (![] : Fin 0 → Fin S2048x8.rank)
  reducesTo_S2048x8_S_d0_1 : S2048x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S2048x8 .f32) (main_arg6 : FVec F S8 .f32) (main_v3 : IVec S_ 1) (main_v7 : IVec S_ 1) (main_v11 : IVec S_ 1) (main_v15 : IVec S_ 1) : IVec S_ 1 :=
  let main_v16 : FVec F S2048x8 .f32 := Host.absf main_arg5
  let main_cst_6 : FVec F S_ .f32 := constant S_ .f32 0x7F800000#32
  let main_v17 : FVec F S2048x8 .f32 := broadcastInDim S2048x8 ![] bcast_S_S2048x8 main_cst_6
  let main_v18 : IVec S2048x8 1 := cmpf .olt main_v16 main_v17
  let main_c_7 : IVec S_ 1 := constantI S_ 1 1#1
  let main_v19 : IVec S_ 1 := (fun x v => Host.reduce IntOp.andi x v reducesTo_S2048x8_S_d0_1 h_S_) main_v18 main_c_7
  let main_v20 : FVec F S8 .f32 := Host.absf main_arg6
  let main_cst_8 : FVec F S_ .f32 := constant S_ .f32 0x7F800000#32
  let main_v21 : FVec F S8 .f32 := broadcastInDim S8 ![] bcast_S_S8 main_cst_8
  let main_v22 : IVec S8 1 := cmpf .olt main_v20 main_v21
  let main_c_9 : IVec S_ 1 := constantI S_ 1 1#1
  let main_v23 : IVec S_ 1 := (fun x v => Host.reduce IntOp.andi x v reducesTo_S8_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S32x64x3x128 .f32) (main_arg1 : FVec F S32x1 .f32) (main_arg2 : FVec F S32x4096 .f32) (main_arg3 : FVec F S4097x2048 .f32) (main_arg4 : FVec F S2048 .f32) (main_arg5 : FVec F S2048x8 .f32) (main_arg6 : FVec F S8 .f32) (main_arg7 : FVec F S8x384x1024 .f32) (main_arg8 : FVec F S8x1024 .f32) (main_arg9 : FVec F S384x1024 .f32) (main_arg10 : FVec F S1024 .f32) : IVec S_ 1 :=
  let main_v0 : FVec F S32x1 .f32 := Host.absf main_arg1
  let main_cst : FVec F S_ .f32 := constant S_ .f32 0x7F800000#32
  let main_v1 : FVec F S32x1 .f32 := broadcastInDim S32x1 ![] bcast_S_S32x1 main_cst
  let main_v2 : IVec S32x1 1 := cmpf .olt main_v0 main_v1
  let main_c : IVec S_ 1 := constantI S_ 1 1#1
  let main_v3 : IVec S_ 1 := (fun x v => Host.reduce IntOp.andi x v reducesTo_S32x1_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : FVec F S4097x2048 .f32 := Host.absf main_arg3
  let main_cst_2 : FVec F S_ .f32 := constant S_ .f32 0x7F800000#32
  let main_v9 : FVec F S4097x2048 .f32 := broadcastInDim S4097x2048 ![] bcast_S_S4097x2048 main_cst_2
  let main_v10 : IVec S4097x2048 1 := cmpf .olt main_v8 main_v9
  let main_c_3 : IVec S_ 1 := constantI S_ 1 1#1
  let main_v11 : IVec S_ 1 := (fun x v => Host.reduce IntOp.andi x v reducesTo_S4097x2048_S_d0_1 h_S_) main_v10 main_c_3
  let main_v12 : FVec F S2048 .f32 := Host.absf main_arg4
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg5 main_arg6 main_v3 main_v7 main_v11 main_v15
-- ==== KernelIdeal.lean ====
abbrev S32x64x3x128 : Shape := ⟨4, ![32, 64, 3, 128]⟩
abbrev S32x1 : Shape := ⟨2, ![32, 1]⟩
abbrev S32x4096 : Shape := ⟨2, ![32, 4096]⟩
abbrev S4097x2048 : Shape := ⟨2, ![4097, 2048]⟩
abbrev S2048 : Shape := ⟨1, ![2048]⟩
abbrev S2048x8 : Shape := ⟨2, ![2048, 8]⟩
abbrev S8 : Shape := ⟨1, ![8]⟩
abbrev S8x384x1024 : Shape := ⟨3, ![8, 384, 1024]⟩
abbrev S8x1024 : Shape := ⟨2, ![8, 1024]⟩
abbrev S384x1024 : Shape := ⟨2, ![384, 1024]⟩
abbrev S1024 : Shape := ⟨1, ![1024]⟩
abbrev S1x2048 : Shape := ⟨2, ![1, 2048]⟩
abbrev S1x8 : Shape := ⟨2, ![1, 8]⟩
abbrev S1x1024 : Shape := ⟨2, ![1, 1024]⟩
abbrev S32x64x1024 : Shape := ⟨3, ![32, 64, 1024]⟩
abbrev S32x1024 : Shape := ⟨2, ![32, 1024]⟩
abbrev S1024x2048 : Shape := ⟨2, ![1024, 2048]⟩
abbrev S8x2048 : Shape := ⟨2, ![8, 2048]⟩
abbrev S8x64x3x128 : Shape := ⟨4, ![8, 64, 3, 128]⟩
abbrev S2x384x1024 : Shape := ⟨3, ![2, 384, 1024]⟩
abbrev S8x64x1024 : Shape := ⟨3, ![8, 64, 1024]⟩
abbrev S32x2048 : Shape := ⟨2, ![32, 2048]⟩
abbrev S2048x384 : Shape := ⟨2, ![2048, 384]⟩
abbrev S2048x1024 : Shape := ⟨2, ![2048, 1024]⟩
abbrev S32x4 : Shape := ⟨2, ![32, 4]⟩
abbrev S_ : Shape := ⟨0, ![]⟩
abbrev S512x384 : Shape := ⟨2, ![512, 384]⟩
abbrev S512x1024 : Shape := ⟨2, ![512, 1024]⟩
abbrev S32x8 : Shape := ⟨2, ![32, 8]⟩
abbrev S32 : Shape := ⟨1, ![32]⟩
abbrev S1x1 : Shape := ⟨2, ![1, 1]⟩
abbrev S64x384 : Shape := ⟨2, ![64, 384]⟩
abbrev S1x384x1024 : Shape := ⟨3, ![1, 384, 1024]⟩
abbrev S64x1024 : Shape := ⟨2, ![64, 1024]⟩
abbrev S1x64x1024 : Shape := ⟨3, ![1, 64, 1024]⟩

abbrev nBuf : Space → Nat
  | .hbm => 15
  | .vmem => 24
  | .smem => 1
  | _ => 0

abbrev bufTy : (tb : Table) → Fin (tcTables nBuf tb) → BufTy
  | .hbm, ⟨0, _⟩ => ⟨S32x64x3x128, .f32⟩
  | .hbm, ⟨1, _⟩ => ⟨S32x1, .f32⟩
  | .hbm, ⟨2, _⟩ => ⟨S32x4096, .f32⟩
  | .hbm, ⟨3, _⟩ => ⟨S4097x2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S8x384x1024, .f32⟩
  | .hbm, ⟨8, _⟩ => ⟨S8x1024, .f32⟩
  | .hbm, ⟨9, _⟩ => ⟨S384x1024, .f32⟩
  | .hbm, ⟨10, _⟩ => ⟨S1024, .f32⟩
  | .hbm, ⟨11, _⟩ => ⟨S1x2048, .f32⟩
  | .hbm, ⟨12, _⟩ => ⟨S1x8, .f32⟩
  | .hbm, ⟨13, _⟩ => ⟨S1x1024, .f32⟩
  | .hbm, ⟨14, _⟩ => ⟨S32x64x1024, .f32⟩
  | .local _ .vmem, ⟨0, _⟩ => ⟨S32x1024, .f32⟩
  | .local _ .vmem, ⟨1, _⟩ => ⟨S32x1024, .f32⟩
  | .local _ .vmem, ⟨2, _⟩ => ⟨S32x1, .f32⟩
  | .local _ .vmem, ⟨3, _⟩ => ⟨S1024x2048, .f32⟩
  | .local _ .vmem, ⟨4, _⟩ => ⟨S1024x2048, .f32⟩
  | .local _ .vmem, ⟨5, _⟩ => ⟨S8x2048, .f32⟩
  | .local _ .vmem, ⟨6, _⟩ => ⟨S1x2048, .f32⟩
  | .local _ .vmem, ⟨7, _⟩ => ⟨S2048x8, .f32⟩
  | .local _ .vmem, ⟨8, _⟩ => ⟨S1x8, .f32⟩
  | .local _ .vmem, ⟨9, _⟩ => ⟨S8x64x3x128, .f32⟩
  | .local _ .vmem, ⟨10, _⟩ => ⟨S8x64x3x128, .f32⟩
  | .local _ .vmem, ⟨11, _⟩ => ⟨S2x384x1024, .f32⟩
  | .local _ .vmem, ⟨12, _⟩ => ⟨S2x384x1024, .f32⟩
  | .local _ .vmem, ⟨13, _⟩ => ⟨S384x1024, .f32⟩
  | .local _ .vmem, ⟨14, _⟩ => ⟨S8x1024, .f32⟩
  | .local _ .vmem, ⟨15, _⟩ => ⟨S1x1024, .f32⟩
  | .local _ .vmem, ⟨16, _⟩ => ⟨S8x64x1024, .f32⟩
  | .local _ .vmem, ⟨17, _⟩ => ⟨S8x64x1024, .f32⟩
  | .local _ .vmem, ⟨18, _⟩ => ⟨S32x2048, .f32⟩
  | .local _ .vmem, ⟨19, _⟩ => ⟨S8x384x1024, .bf16⟩
  | .local _ .vmem, ⟨20, _⟩ => ⟨S384x1024, .bf16⟩
  | .local _ .vmem, ⟨21, _⟩ => ⟨S2048x384, .bf16⟩
  | .local _ .vmem, ⟨22, _⟩ => ⟨S2048x1024, .f32⟩
  | .local _ .vmem, ⟨23, _⟩ => ⟨S32x4, .f32⟩
  | .local _ .smem, ⟨0, _⟩ => ⟨S32x4, .f32⟩
  | _, _ => ⟨S32x64x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let v17 : BitVec 32 := Scalar.muli arg0 c2_i32
  let v18 : Index := Scalar.indexCast v17
  let c0_10 : Index := 0#32
  let c0_11 : Index := 0#32
  ![v18.toNat, 0, 0]
def k0_off2 (i : grid0.Coords) : Fin 2 → Nat :=
  let arg0 : BitVec 32 := BitVec.ofNat 32 (i 0).val
  let c8_i32 : BitVec 32 := 8#32
  let v25 : BitVec 32 := Scalar.muli arg0 c8_i32
  let c64_i32 : BitVec 32 := 64#32
  let v26 : BitVec 32 := Scalar.muli v25 c64_i32
  let v27 : Index := Scalar.indexCast v26
  let c0_16 : Index := 0#32
  ![v27.toNat, 0]
def k0_off3 (i : grid0.Coords) : Fin 2 → Nat :=
  let arg0 : BitVec 32 := BitVec.ofNat 32 (i 0).val
  let c8_i32_19 : BitVec 32 := 8#32
  let v33 : BitVec 32 := Scalar.muli arg0 c8_i32_19
  let c64_i32_20 : BitVec 32 := 64#32
  let v34 : BitVec 32 := Scalar.muli v33 c64_i32_20
  let v35 : Index := Scalar.indexCast v34
  let c0_21 : Index := 0#32
  ![v35.toNat, 0]
def k0_cond8 (i : grid0.Coords) : BitVec 1 :=
  let arg0 : BitVec 32 := BitVec.ofNat 32 (i 0).val
  let c4_i32_6 : BitVec 32 := 4#32
  let v12 : BitVec 1 := Scalar.cmpi .sge arg0 c4_i32_6
  let v13 : BitVec 32 := Scalar.extui v12
  let c0_i32_7 : BitVec 32 := 0#32
  let v14 : BitVec 1 := Scalar.cmpi .ne v13 c0_i32_7
  v14

def k0_off4 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let v18 : Index := Scalar.indexCast v17
  let c0 : Index := 0#32
  ![v18.toNat, 0]
def k0_off5 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let v21 : Index := Scalar.indexCast v17
  let c1 : Index := 1#32
  ![v21.toNat, 1]
def k0_off6 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let v24 : Index := Scalar.indexCast v17
  let c2 : Index := 2#32
  ![v24.toNat, 2]
def k0_off7 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let v26 : Index := Scalar.indexCast v17
  let c3 : Index := 3#32
  ![v26.toNat, 3]
def k0_off8 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let c64_i32 : BitVec 32 := 64#32
  let v28 : BitVec 32 := Scalar.muli v17 c64_i32
  let v29 : Index := Scalar.indexCast v28
  let c0_10 : Index := 0#32
  ![v29.toNat, 0]
def k0_off9 (v20 : BitVec 32) : Fin 3 → Nat :=
  let v31 : Index := Scalar.indexCast v20
  let c0_11 : Index := 0#32
  let c0_12 : Index := 0#32
  ![v31.toNat, 0, 0]

def k0_off10 (v23 : BitVec 32) : Fin 3 → Nat :=
  let v35 : Index := Scalar.indexCast v23
  let c0_13 : Index := 0#32
  let c0_14 : Index := 0#32
  ![v35.toNat, 0, 0]

def k0_off11 (i : grid0.Coords) : Fin 2 → Nat :=
  let arg0 : BitVec 32 := BitVec.ofNat 32 (i 0).val
  let c4_i32_8 : BitVec 32 := 4#32
  let v15 : BitVec 32 := Scalar.subi arg0 c4_i32_8
  let c8_i32 : BitVec 32 := 8#32
  let v16 : BitVec 32 := Scalar.muli v15 c8_i32
  let c0_i32_9 : BitVec 32 := 0#32
  let v17 : BitVec 32 := Scalar.addi v16 c0_i32_9
  let c64_i32_16 : BitVec 32 := 64#32
  let v39 : BitVec 32 := Scalar.muli v17 c64_i32_16
  let v40 : Index := Scalar.indexCast v39
  let c0_17 : Index := 0#32
  ![v40.toNat, 0]
def k0_off12 (v20 : BitVec 32) : Fin 2 → Nat :=
  let v46 : Index := Scalar.indexCast v20
  let c0_20 : Index := 0#32
  ![v46.toNat, 0]

def k0_chk1 (i : grid0.Coords) (v20 : BitVec 32) : Prop :=
  (∀ (k0_h8 : k0_cond8 i = 1#1), ∀ a, (k0_off9 v20) a + S1x384x1024.size a ≤ S8x384x1024.size a) ∧
  (∀ (k0_h8 : k0_cond8 i = 1#1), ∀ a, (k0_off12 v20) a + S1x1024.size a ≤ S8x1024.size a)
theorem k0_off9_inb : ∀ (i : grid0.Coords) (v20 : BitVec 32) (k0_hw1 : k0_chk1 i v20), ∀ (k0_h8 : k0_cond8 i = 1#1), ∀ a, (k0_off9 v20) a + S1x384x1024.size a ≤ S8x384x1024.size a := fun i v20 k0_hw1 k0_h8 => k0_hw1.1 k0_h8
theorem k0_off12_inb : ∀ (i : grid0.Coords) (v20 : BitVec 32) (k0_hw1 : k0_chk1 i v20), ∀ (k0_h8 : k0_cond8 i = 1#1), ∀ a, (k0_off12 v20) a + S1x1024.size a ≤ S8x1024.size a := fun i v20 k0_hw1 k0_h8 => k0_hw1.2 k0_h8

def k0_off13 (v23 : BitVec 32) : Fin 2 → Nat :=
  let v55 : Index := Scalar.indexCast v23
  let c0_21 : Index := 0#32
  ![v55.toNat, 0]

def k0_chk2 (i : grid0.Coords) (v23 : BitVec 32) : Prop :=
  (∀ (k0_h8 : k0_cond8 i = 1#1), ∀ a, (k0_off10 v23) a + S1x384x1024.size a ≤ S8x384x1024.size a) ∧
  (∀ (k0_h8 : k0_cond8 i = 1#1), ∀ a, (k0_off13 v23) a + S1x1024.size a ≤ S8x1024.size a)
theorem k0_off10_inb : ∀ (i : grid0.Coords) (v23 : BitVec 32) (k0_hw2 : k0_chk2 i v23), ∀ (k0_h8 : k0_cond8 i = 1#1), ∀ a, (k0_off10 v23) a + S1x384x1024.size a ≤ S8x384x1024.size a := fun i v23 k0_hw2 k0_h8 => k0_hw2.1 k0_h8
theorem k0_off13_inb : ∀ (i : grid0.Coords) (v23 : BitVec 32) (k0_hw2 : k0_chk2 i v23), ∀ (k0_h8 : k0_cond8 i = 1#1), ∀ a, (k0_off13 v23) a + S1x1024.size a ≤ S8x1024.size a := fun i v23 k0_hw2 k0_h8 => k0_hw2.2 k0_h8

def k0_off14 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let v69 : Index := Scalar.indexCast v68
  let c0_26 : Index := 0#32
  ![v69.toNat, 0]
def k0_off15 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let v72 : Index := Scalar.indexCast v68
  let c1_27 : Index := 1#32
  ![v72.toNat, 1]
def k0_off16 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let v75 : Index := Scalar.indexCast v68
  let c2_28 : Index := 2#32
  ![v75.toNat, 2]
def k0_off17 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let v77 : Index := Scalar.indexCast v68
  let c3_29 : Index := 3#32
  ![v77.toNat, 3]
def k0_off18 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let c64_i32_30 : BitVec 32 := 64#32
  let v79 : BitVec 32 := Scalar.muli v68 c64_i32_30
  let v80 : Index := Scalar.indexCast v79
  let c0_31 : Index := 0#32
  ![v80.toNat, 0]
def k0_off19 (v71 : BitVec 32) : Fin 3 → Nat :=
  let v82 : Index := Scalar.indexCast v71
  let c0_32 : Index := 0#32
  let c0_33 : Index := 0#32
  ![v82.toNat, 0, 0]

def k0_off20 (v74 : BitVec 32) : Fin 3 → Nat :=
  let v86 : Index := Scalar.indexCast v74
  let c0_35 : Index := 0#32
  let c0_36 : Index := 0#32
  ![v86.toNat, 0, 0]

def k0_off21 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_25 : BitVec 32 := 8#32
  let v67 : BitVec 32 := Scalar.muli v15 c8_i32_25
  let c1_i32 : BitVec 32 := 1#32
  let v68 : BitVec 32 := Scalar.addi v67 c1_i32
  let c64_i32_38 : BitVec 32 := 64#32
  let v90 : BitVec 32 := Scalar.muli v68 c64_i32_38
  let v91 : Index := Scalar.indexCast v90
  let c0_39 : Index := 0#32
  ![v91.toNat, 0]
def k0_off22 (v71 : BitVec 32) : Fin 2 → Nat :=
  let v97 : Index := Scalar.indexCast v71
  let c0_42 : Index := 0#32
  ![v97.toNat, 0]

def k0_chk3 (i : grid0.Coords) (v71 : BitVec 32) : Prop :=
  (∀ (k0_h8 : k0_cond8 i = 1#1), ∀ a, (k0_off19 v71) a + S1x384x1024.size a ≤ S8x384x1024.size a) ∧
  (∀ (k0_h8 : k0_cond8 i = 1#1), ∀ a, (k0_off22 v71) a + S1x1024.size a ≤ S8x1024.size a)
theorem k0_off19_inb : ∀ (i : grid0.Coords) (v71 : BitVec 32) (k0_hw3 : k0_chk3 i v71), ∀ (k0_h8 : k0_cond8 i = 1#1), ∀ a, (k0_off19 v71) a + S1x384x1024.size a ≤ S8x384x1024.size a := fun i v71 k0_hw3 k0_h8 => k0_hw3.1 k0_h8
theorem k0_off22_inb : ∀ (i : grid0.Coords) (v71 : BitVec 32) (k0_hw3 : k0_chk3 i v71), ∀ (k0_h8 : k0_cond8 i = 1#1), ∀ a, (k0_off22 v71) a + S1x1024.size a ≤ S8x1024.size a := fun i v71 k0_hw3 k0_h8 => k0_hw3.2 k0_h8

def k0_off23 (v74 : BitVec 32) : Fin 2 → Nat :=
  let v106 : Index := Scalar.indexCast v74
  let c0_43 : Index := 0#32
  ![v106.toNat, 0]

def k0_chk4 (i : grid0.Coords) (v74 : BitVec 32) : Prop :=
  (∀ (k0_h8 : k0_cond8 i = 1#1), ∀ a, (k0_off20 v74) a + S1x384x1024.size a ≤ S8x384x1024.size a) ∧
  (∀ (k0_h8 : k0_cond8 i = 1#1), ∀ a, (k0_off23 v74) a + S1x1024.size a ≤ S8x1024.size a)
theorem k0_off20_inb : ∀ (i : grid0.Coords) (v74 : BitVec 32) (k0_hw4 : k0_chk4 i v74), ∀ (k0_h8 : k0_cond8 i = 1#1), ∀ a, (k0_off20 v74) a + S1x384x1024.size a ≤ S8x384x1024.size a := fun i v74 k0_hw4 k0_h8 => k0_hw4.1 k0_h8
theorem k0_off23_inb : ∀ (i : grid0.Coords) (v74 : BitVec 32) (k0_hw4 : k0_chk4 i v74), ∀ (k0_h8 : k0_cond8 i = 1#1), ∀ a, (k0_off23 v74) a + S1x1024.size a ≤ S8x1024.size a := fun i v74 k0_hw4 k0_h8 => k0_hw4.2 k0_h8

def k0_off24 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let v120 : Index := Scalar.indexCast v119
  let c0_48 : Index := 0#32
  ![v120.toNat, 0]
def k0_off25 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let v123 : Index := Scalar.indexCast v119
  let c1_49 : Index := 1#32
  ![v123.toNat, 1]
def k0_off26 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let v126 : Index := Scalar.indexCast v119
  let c2_50 : Index := 2#32
  ![v126.toNat, 2]
def k0_off27 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let v128 : Index := Scalar.indexCast v119
  let c3_51 : Index := 3#32
  ![v128.toNat, 3]
def k0_off28 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let c64_i32_52 : BitVec 32 := 64#32
  let v130 : BitVec 32 := Scalar.muli v119 c64_i32_52
  let v131 : Index := Scalar.indexCast v130
  let c0_53 : Index := 0#32
  ![v131.toNat, 0]
def k0_off29 (v122 : BitVec 32) : Fin 3 → Nat :=
  let v133 : Index := Scalar.indexCast v122
  let c0_54 : Index := 0#32
  let c0_55 : Index := 0#32
  ![v133.toNat, 0, 0]

def k0_off30 (v125 : BitVec 32) : Fin 3 → Nat :=
  let v137 : Index := Scalar.indexCast v125
  let c0_57 : Index := 0#32
  let c0_58 : Index := 0#32
  ![v137.toNat, 0, 0]

def k0_off31 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_47 : BitVec 32 := 8#32
  let v118 : BitVec 32 := Scalar.muli v15 c8_i32_47
  let c2_i32 : BitVec 32 := 2#32
  let v119 : BitVec 32 := Scalar.addi v118 c2_i32
  let c64_i32_60 : BitVec 32 := 64#32
  let v141 : BitVec 32 := Scalar.muli v119 c64_i32_60
  let v142 : Index := Scalar.indexCast v141
  let c0_61 : Index := 0#32
  ![v142.toNat, 0]
def k0_off32 (v122 : BitVec 32) : Fin 2 → Nat :=
  let v148 : Index := Scalar.indexCast v122
  let c0_64 : Index := 0#32
  ![v148.toNat, 0]

def k0_chk5 (i : grid0.Coords) (v122 : BitVec 32) : Prop :=
  (∀ (k0_h8 : k0_cond8 i = 1#1), ∀ a, (k0_off29 v122) a + S1x384x1024.size a ≤ S8x384x1024.size a) ∧
  (∀ (k0_h8 : k0_cond8 i = 1#1), ∀ a, (k0_off32 v122) a + S1x1024.size a ≤ S8x1024.size a)
theorem k0_off29_inb : ∀ (i : grid0.Coords) (v122 : BitVec 32) (k0_hw5 : k0_chk5 i v122), ∀ (k0_h8 : k0_cond8 i = 1#1), ∀ a, (k0_off29 v122) a + S1x384x1024.size a ≤ S8x384x1024.size a := fun i v122 k0_hw5 k0_h8 => k0_hw5.1 k0_h8
theorem k0_off32_inb : ∀ (i : grid0.Coords) (v122 : BitVec 32) (k0_hw5 : k0_chk5 i v122), ∀ (k0_h8 : k0_cond8 i = 1#1), ∀ a, (k0_off32 v122) a + S1x1024.size a ≤ S8x1024.size a := fun i v122 k0_hw5 k0_h8 => k0_hw5.2 k0_h8

def k0_off33 (v125 : BitVec 32) : Fin 2 → Nat :=
  let v157 : Index := Scalar.indexCast v125
  let c0_65 : Index := 0#32
  ![v157.toNat, 0]

def k0_chk6 (i : grid0.Coords) (v125 : BitVec 32) : Prop :=
  (∀ (k0_h8 : k0_cond8 i = 1#1), ∀ a, (k0_off30 v125) a + S1x384x1024.size a ≤ S8x384x1024.size a) ∧
  (∀ (k0_h8 : k0_cond8 i = 1#1), ∀ a, (k0_off33 v125) a + S1x1024.size a ≤ S8x1024.size a)
theorem k0_off30_inb : ∀ (i : grid0.Coords) (v125 : BitVec 32) (k0_hw6 : k0_chk6 i v125), ∀ (k0_h8 : k0_cond8 i = 1#1), ∀ a, (k0_off30 v125) a + S1x384x1024.size a ≤ S8x384x1024.size a := fun i v125 k0_hw6 k0_h8 => k0_hw6.1 k0_h8
theorem k0_off33_inb : ∀ (i : grid0.Coords) (v125 : BitVec 32) (k0_hw6 : k0_chk6 i v125), ∀ (k0_h8 : k0_cond8 i = 1#1), ∀ a, (k0_off33 v125) a + S1x1024.size a ≤ S8x1024.size a := fun i v125 k0_hw6 k0_h8 => k0_hw6.2 k0_h8

def k0_off34 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let v171 : Index := Scalar.indexCast v170
  let c0_70 : Index := 0#32
  ![v171.toNat, 0]
def k0_off35 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let v174 : Index := Scalar.indexCast v170
  let c1_71 : Index := 1#32
  ![v174.toNat, 1]
def k0_off36 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let v177 : Index := Scalar.indexCast v170
  let c2_72 : Index := 2#32
  ![v177.toNat, 2]
def k0_off37 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let v179 : Index := Scalar.indexCast v170
  let c3_73 : Index := 3#32
  ![v179.toNat, 3]
def k0_off38 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let c64_i32_74 : BitVec 32 := 64#32
  let v181 : BitVec 32 := Scalar.muli v170 c64_i32_74
  let v182 : Index := Scalar.indexCast v181
  let c0_75 : Index := 0#32
  ![v182.toNat, 0]
def k0_off39 (v173 : BitVec 32) : Fin 3 → Nat :=
  let v184 : Index := Scalar.indexCast v173
  let c0_76 : Index := 0#32
  let c0_77 : Index := 0#32
  ![v184.toNat, 0, 0]

def k0_off40 (v176 : BitVec 32) : Fin 3 → Nat :=
  let v188 : Index := Scalar.indexCast v176
  let c0_79 : Index := 0#32
  let c0_80 : Index := 0#32
  ![v188.toNat, 0, 0]

def k0_off41 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_69 : BitVec 32 := 8#32
  let v169 : BitVec 32 := Scalar.muli v15 c8_i32_69
  let c3_i32 : BitVec 32 := 3#32
  let v170 : BitVec 32 := Scalar.addi v169 c3_i32
  let c64_i32_82 : BitVec 32 := 64#32
  let v192 : BitVec 32 := Scalar.muli v170 c64_i32_82
  let v193 : Index := Scalar.indexCast v192
  let c0_83 : Index := 0#32
  ![v193.toNat, 0]
def k0_off42 (v173 : BitVec 32) : Fin 2 → Nat :=
  let v199 : Index := Scalar.indexCast v173
  let c0_86 : Index := 0#32
  ![v199.toNat, 0]

def k0_chk7 (i : grid0.Coords) (v173 : BitVec 32) : Prop :=
  (∀ (k0_h8 : k0_cond8 i = 1#1), ∀ a, (k0_off39 v173) a + S1x384x1024.size a ≤ S8x384x1024.size a) ∧
  (∀ (k0_h8 : k0_cond8 i = 1#1), ∀ a, (k0_off42 v173) a + S1x1024.size a ≤ S8x1024.size a)
theorem k0_off39_inb : ∀ (i : grid0.Coords) (v173 : BitVec 32) (k0_hw7 : k0_chk7 i v173), ∀ (k0_h8 : k0_cond8 i = 1#1), ∀ a, (k0_off39 v173) a + S1x384x1024.size a ≤ S8x384x1024.size a := fun i v173 k0_hw7 k0_h8 => k0_hw7.1 k0_h8
theorem k0_off42_inb : ∀ (i : grid0.Coords) (v173 : BitVec 32) (k0_hw7 : k0_chk7 i v173), ∀ (k0_h8 : k0_cond8 i = 1#1), ∀ a, (k0_off42 v173) a + S1x1024.size a ≤ S8x1024.size a := fun i v173 k0_hw7 k0_h8 => k0_hw7.2 k0_h8

def k0_off43 (v176 : BitVec 32) : Fin 2 → Nat :=
  let v208 : Index := Scalar.indexCast v176
  let c0_87 : Index := 0#32
  ![v208.toNat, 0]

def k0_chk8 (i : grid0.Coords) (v176 : BitVec 32) : Prop :=
  (∀ (k0_h8 : k0_cond8 i = 1#1), ∀ a, (k0_off40 v176) a + S1x384x1024.size a ≤ S8x384x1024.size a) ∧
  (∀ (k0_h8 : k0_cond8 i = 1#1), ∀ a, (k0_off43 v176) a + S1x1024.size a ≤ S8x1024.size a)
theorem k0_off40_inb : ∀ (i : grid0.Coords) (v176 : BitVec 32) (k0_hw8 : k0_chk8 i v176), ∀ (k0_h8 : k0_cond8 i = 1#1), ∀ a, (k0_off40 v176) a + S1x384x1024.size a ≤ S8x384x1024.size a := fun i v176 k0_hw8 k0_h8 => k0_hw8.1 k0_h8
theorem k0_off43_inb : ∀ (i : grid0.Coords) (v176 : BitVec 32) (k0_hw8 : k0_chk8 i v176), ∀ (k0_h8 : k0_cond8 i = 1#1), ∀ a, (k0_off43 v176) a + S1x1024.size a ≤ S8x1024.size a := fun i v176 k0_hw8 k0_h8 => k0_hw8.2 k0_h8

def k0_off44 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let v222 : Index := Scalar.indexCast v221
  let c0_93 : Index := 0#32
  ![v222.toNat, 0]
def k0_off45 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let v225 : Index := Scalar.indexCast v221
  let c1_94 : Index := 1#32
  ![v225.toNat, 1]
def k0_off46 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let v228 : Index := Scalar.indexCast v221
  let c2_95 : Index := 2#32
  ![v228.toNat, 2]
def k0_off47 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let v230 : Index := Scalar.indexCast v221
  let c3_96 : Index := 3#32
  ![v230.toNat, 3]
def k0_off48 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let c64_i32_97 : BitVec 32 := 64#32
  let v232 : BitVec 32 := Scalar.muli v221 c64_i32_97
  let v233 : Index := Scalar.indexCast v232
  let c0_98 : Index := 0#32
  ![v233.toNat, 0]
def k0_off49 (v224 : BitVec 32) : Fin 3 → Nat :=
  let v235 : Index := Scalar.indexCast v224
  let c0_99 : Index := 0#32
  let c0_100 : Index := 0#32
  ![v235.toNat, 0, 0]

def k0_off50 (v227 : BitVec 32) : Fin 3 → Nat :=
  let v239 : Index := Scalar.indexCast v227
  let c0_102 : Index := 0#32
  let c0_103 : Index := 0#32
  ![v239.toNat, 0, 0]

def k0_off51 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_91 : BitVec 32 := 8#32
  let v220 : BitVec 32 := Scalar.muli v15 c8_i32_91
  let c4_i32_92 : BitVec 32 := 4#32
  let v221 : BitVec 32 := Scalar.addi v220 c4_i32_92
  let c64_i32_105 : BitVec 32 := 64#32
  let v243 : BitVec 32 := Scalar.muli v221 c64_i32_105
  let v244 : Index := Scalar.indexCast v243
  let c0_106 : Index := 0#32
  ![v244.toNat, 0]
def k0_off52 (v224 : BitVec 32) : Fin 2 → Nat :=
  let v250 : Index := Scalar.indexCast v224
  let c0_109 : Index := 0#32
  ![v250.toNat, 0]

def k0_chk9 (i : grid0.Coords) (v224 : BitVec 32) : Prop :=
  (∀ (k0_h8 : k0_cond8 i = 1#1), ∀ a, (k0_off49 v224) a + S1x384x1024.size a ≤ S8x384x1024.size a) ∧
  (∀ (k0_h8 : k0_cond8 i = 1#1), ∀ a, (k0_off52 v224) a + S1x1024.size a ≤ S8x1024.size a)
theorem k0_off49_inb : ∀ (i : grid0.Coords) (v224 : BitVec 32) (k0_hw9 : k0_chk9 i v224), ∀ (k0_h8 : k0_cond8 i = 1#1), ∀ a, (k0_off49 v224) a + S1x384x1024.size a ≤ S8x384x1024.size a := fun i v224 k0_hw9 k0_h8 => k0_hw9.1 k0_h8
theorem k0_off52_inb : ∀ (i : grid0.Coords) (v224 : BitVec 32) (k0_hw9 : k0_chk9 i v224), ∀ (k0_h8 : k0_cond8 i = 1#1), ∀ a, (k0_off52 v224) a + S1x1024.size a ≤ S8x1024.size a := fun i v224 k0_hw9 k0_h8 => k0_hw9.2 k0_h8

def k0_off53 (v227 : BitVec 32) : Fin 2 → Nat :=
  let v259 : Index := Scalar.indexCast v227
  let c0_110 : Index := 0#32
  ![v259.toNat, 0]

def k0_chk10 (i : grid0.Coords) (v227 : BitVec 32) : Prop :=
  (∀ (k0_h8 : k0_cond8 i = 1#1), ∀ a, (k0_off50 v227) a + S1x384x1024.size a ≤ S8x384x1024.size a) ∧
  (∀ (k0_h8 : k0_cond8 i = 1#1), ∀ a, (k0_off53 v227) a + S1x1024.size a ≤ S8x1024.size a)
theorem k0_off50_inb : ∀ (i : grid0.Coords) (v227 : BitVec 32) (k0_hw10 : k0_chk10 i v227), ∀ (k0_h8 : k0_cond8 i = 1#1), ∀ a, (k0_off50 v227) a + S1x384x1024.size a ≤ S8x384x1024.size a := fun i v227 k0_hw10 k0_h8 => k0_hw10.1 k0_h8
theorem k0_off53_inb : ∀ (i : grid0.Coords) (v227 : BitVec 32) (k0_hw10 : k0_chk10 i v227), ∀ (k0_h8 : k0_cond8 i = 1#1), ∀ a, (k0_off53 v227) a + S1x1024.size a ≤ S8x1024.size a := fun i v227 k0_hw10 k0_h8 => k0_hw10.2 k0_h8

def k0_off54 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let v273 : Index := Scalar.indexCast v272
  let c0_114 : Index := 0#32
  ![v273.toNat, 0]
def k0_off55 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let v276 : Index := Scalar.indexCast v272
  let c1_115 : Index := 1#32
  ![v276.toNat, 1]
def k0_off56 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let v279 : Index := Scalar.indexCast v272
  let c2_116 : Index := 2#32
  ![v279.toNat, 2]
def k0_off57 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let v281 : Index := Scalar.indexCast v272
  let c3_117 : Index := 3#32
  ![v281.toNat, 3]
def k0_off58 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let c64_i32_118 : BitVec 32 := 64#32
  let v283 : BitVec 32 := Scalar.muli v272 c64_i32_118
  let v284 : Index := Scalar.indexCast v283
  let c0_119 : Index := 0#32
  ![v284.toNat, 0]
def k0_off59 (v275 : BitVec 32) : Fin 3 → Nat :=
  let v286 : Index := Scalar.indexCast v275
  let c0_120 : Index := 0#32
  let c0_121 : Index := 0#32
  ![v286.toNat, 0, 0]

def k0_off60 (v278 : BitVec 32) : Fin 3 → Nat :=
  let v290 : Index := Scalar.indexCast v278
  let c0_123 : Index := 0#32
  let c0_124 : Index := 0#32
  ![v290.toNat, 0, 0]

def k0_off61 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_113 : BitVec 32 := 8#32
  let v271 : BitVec 32 := Scalar.muli v15 c8_i32_113
  let c5_i32 : BitVec 32 := 5#32
  let v272 : BitVec 32 := Scalar.addi v271 c5_i32
  let c64_i32_126 : BitVec 32 := 64#32
  let v294 : BitVec 32 := Scalar.muli v272 c64_i32_126
  let v295 : Index := Scalar.indexCast v294
  let c0_127 : Index := 0#32
  ![v295.toNat, 0]
def k0_off62 (v275 : BitVec 32) : Fin 2 → Nat :=
  let v301 : Index := Scalar.indexCast v275
  let c0_130 : Index := 0#32
  ![v301.toNat, 0]

def k0_chk11 (i : grid0.Coords) (v275 : BitVec 32) : Prop :=
  (∀ (k0_h8 : k0_cond8 i = 1#1), ∀ a, (k0_off59 v275) a + S1x384x1024.size a ≤ S8x384x1024.size a) ∧
  (∀ (k0_h8 : k0_cond8 i = 1#1), ∀ a, (k0_off62 v275) a + S1x1024.size a ≤ S8x1024.size a)
theorem k0_off59_inb : ∀ (i : grid0.Coords) (v275 : BitVec 32) (k0_hw11 : k0_chk11 i v275), ∀ (k0_h8 : k0_cond8 i = 1#1), ∀ a, (k0_off59 v275) a + S1x384x1024.size a ≤ S8x384x1024.size a := fun i v275 k0_hw11 k0_h8 => k0_hw11.1 k0_h8
theorem k0_off62_inb : ∀ (i : grid0.Coords) (v275 : BitVec 32) (k0_hw11 : k0_chk11 i v275), ∀ (k0_h8 : k0_cond8 i = 1#1), ∀ a, (k0_off62 v275) a + S1x1024.size a ≤ S8x1024.size a := fun i v275 k0_hw11 k0_h8 => k0_hw11.2 k0_h8

def k0_off63 (v278 : BitVec 32) : Fin 2 → Nat :=
  let v310 : Index := Scalar.indexCast v278
  let c0_131 : Index := 0#32
  ![v310.toNat, 0]

def k0_chk12 (i : grid0.Coords) (v278 : BitVec 32) : Prop :=
  (∀ (k0_h8 : k0_cond8 i = 1#1), ∀ a, (k0_off60 v278) a + S1x384x1024.size a ≤ S8x384x1024.size a) ∧
  (∀ (k0_h8 : k0_cond8 i = 1#1), ∀ a, (k0_off63 v278) a + S1x1024.size a ≤ S8x1024.size a)
theorem k0_off60_inb : ∀ (i : grid0.Coords) (v278 : BitVec 32) (k0_hw12 : k0_chk12 i v278), ∀ (k0_h8 : k0_cond8 i = 1#1), ∀ a, (k0_off60 v278) a + S1x384x1024.size a ≤ S8x384x1024.size a := fun i v278 k0_hw12 k0_h8 => k0_hw12.1 k0_h8
theorem k0_off63_inb : ∀ (i : grid0.Coords) (v278 : BitVec 32) (k0_hw12 : k0_chk12 i v278), ∀ (k0_h8 : k0_cond8 i = 1#1), ∀ a, (k0_off63 v278) a + S1x1024.size a ≤ S8x1024.size a := fun i v278 k0_hw12 k0_h8 => k0_hw12.2 k0_h8

def k0_off64 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let v324 : Index := Scalar.indexCast v323
  let c0_135 : Index := 0#32
  ![v324.toNat, 0]
def k0_off65 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let v327 : Index := Scalar.indexCast v323
  let c1_136 : Index := 1#32
  ![v327.toNat, 1]
def k0_off66 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let v330 : Index := Scalar.indexCast v323
  let c2_137 : Index := 2#32
  ![v330.toNat, 2]
def k0_off67 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let v332 : Index := Scalar.indexCast v323
  let c3_138 : Index := 3#32
  ![v332.toNat, 3]
def k0_off68 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let c64_i32_139 : BitVec 32 := 64#32
  let v334 : BitVec 32 := Scalar.muli v323 c64_i32_139
  let v335 : Index := Scalar.indexCast v334
  let c0_140 : Index := 0#32
  ![v335.toNat, 0]
def k0_off69 (v326 : BitVec 32) : Fin 3 → Nat :=
  let v337 : Index := Scalar.indexCast v326
  let c0_141 : Index := 0#32
  let c0_142 : Index := 0#32
  ![v337.toNat, 0, 0]

def k0_off70 (v329 : BitVec 32) : Fin 3 → Nat :=
  let v341 : Index := Scalar.indexCast v329
  let c0_144 : Index := 0#32
  let c0_145 : Index := 0#32
  ![v341.toNat, 0, 0]

def k0_off71 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_134 : BitVec 32 := 8#32
  let v322 : BitVec 32 := Scalar.muli v15 c8_i32_134
  let c6_i32 : BitVec 32 := 6#32
  let v323 : BitVec 32 := Scalar.addi v322 c6_i32
  let c64_i32_147 : BitVec 32 := 64#32
  let v345 : BitVec 32 := Scalar.muli v323 c64_i32_147
  let v346 : Index := Scalar.indexCast v345
  let c0_148 : Index := 0#32
  ![v346.toNat, 0]
def k0_off72 (v326 : BitVec 32) : Fin 2 → Nat :=
  let v352 : Index := Scalar.indexCast v326
  let c0_151 : Index := 0#32
  ![v352.toNat, 0]

def k0_chk13 (i : grid0.Coords) (v326 : BitVec 32) : Prop :=
  (∀ (k0_h8 : k0_cond8 i = 1#1), ∀ a, (k0_off69 v326) a + S1x384x1024.size a ≤ S8x384x1024.size a) ∧
  (∀ (k0_h8 : k0_cond8 i = 1#1), ∀ a, (k0_off72 v326) a + S1x1024.size a ≤ S8x1024.size a)
theorem k0_off69_inb : ∀ (i : grid0.Coords) (v326 : BitVec 32) (k0_hw13 : k0_chk13 i v326), ∀ (k0_h8 : k0_cond8 i = 1#1), ∀ a, (k0_off69 v326) a + S1x384x1024.size a ≤ S8x384x1024.size a := fun i v326 k0_hw13 k0_h8 => k0_hw13.1 k0_h8
theorem k0_off72_inb : ∀ (i : grid0.Coords) (v326 : BitVec 32) (k0_hw13 : k0_chk13 i v326), ∀ (k0_h8 : k0_cond8 i = 1#1), ∀ a, (k0_off72 v326) a + S1x1024.size a ≤ S8x1024.size a := fun i v326 k0_hw13 k0_h8 => k0_hw13.2 k0_h8

def k0_off73 (v329 : BitVec 32) : Fin 2 → Nat :=
  let v361 : Index := Scalar.indexCast v329
  let c0_152 : Index := 0#32
  ![v361.toNat, 0]

def k0_chk14 (i : grid0.Coords) (v329 : BitVec 32) : Prop :=
  (∀ (k0_h8 : k0_cond8 i = 1#1), ∀ a, (k0_off70 v329) a + S1x384x1024.size a ≤ S8x384x1024.size a) ∧
  (∀ (k0_h8 : k0_cond8 i = 1#1), ∀ a, (k0_off73 v329) a + S1x1024.size a ≤ S8x1024.size a)
theorem k0_off70_inb : ∀ (i : grid0.Coords) (v329 : BitVec 32) (k0_hw14 : k0_chk14 i v329), ∀ (k0_h8 : k0_cond8 i = 1#1), ∀ a, (k0_off70 v329) a + S1x384x1024.size a ≤ S8x384x1024.size a := fun i v329 k0_hw14 k0_h8 => k0_hw14.1 k0_h8
theorem k0_off73_inb : ∀ (i : grid0.Coords) (v329 : BitVec 32) (k0_hw14 : k0_chk14 i v329), ∀ (k0_h8 : k0_cond8 i = 1#1), ∀ a, (k0_off73 v329) a + S1x1024.size a ≤ S8x1024.size a := fun i v329 k0_hw14 k0_h8 => k0_hw14.2 k0_h8

def k0_off74 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let v375 : Index := Scalar.indexCast v374
  let c0_156 : Index := 0#32
  ![v375.toNat, 0]
def k0_off75 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let v378 : Index := Scalar.indexCast v374
  let c1_157 : Index := 1#32
  ![v378.toNat, 1]
def k0_off76 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let v381 : Index := Scalar.indexCast v374
  let c2_158 : Index := 2#32
  ![v381.toNat, 2]
def k0_off77 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let v383 : Index := Scalar.indexCast v374
  let c3_159 : Index := 3#32
  ![v383.toNat, 3]
def k0_off78 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let c64_i32_160 : BitVec 32 := 64#32
  let v385 : BitVec 32 := Scalar.muli v374 c64_i32_160
  let v386 : Index := Scalar.indexCast v385
  let c0_161 : Index := 0#32
  ![v386.toNat, 0]
def k0_off79 (v377 : BitVec 32) : Fin 3 → Nat :=
  let v388 : Index := Scalar.indexCast v377
  let c0_162 : Index := 0#32
  let c0_163 : Index := 0#32
  ![v388.toNat, 0, 0]

def k0_off80 (v380 : BitVec 32) : Fin 3 → Nat :=
  let v392 : Index := Scalar.indexCast v380
  let c0_165 : Index := 0#32
  let c0_166 : Index := 0#32
  ![v392.toNat, 0, 0]

def k0_off81 (i : grid0.Coords) : Fin 2 → Nat :=
  let arg0 : BitVec 32 := BitVec.ofNat 32 (i 0).val
  let c4_i32_8 : BitVec 32 := 4#32
  let v15 : BitVec 32 := Scalar.subi arg0 c4_i32_8
  let c8_i32_155 : BitVec 32 := 8#32
  let v373 : BitVec 32 := Scalar.muli v15 c8_i32_155
  let c7_i32 : BitVec 32 := 7#32
  let v374 : BitVec 32 := Scalar.addi v373 c7_i32
  let c64_i32_168 : BitVec 32 := 64#32
  let v396 : BitVec 32 := Scalar.muli v374 c64_i32_168
  let v397 : Index := Scalar.indexCast v396
  let c0_169 : Index := 0#32
  ![v397.toNat, 0]
def k0_off82 (v377 : BitVec 32) : Fin 2 → Nat :=
  let v403 : Index := Scalar.indexCast v377
  let c0_172 : Index := 0#32
  ![v403.toNat, 0]

def k0_chk15 (i : grid0.Coords) (v377 : BitVec 32) : Prop :=
  (∀ (k0_h8 : k0_cond8 i = 1#1), ∀ a, (k0_off79 v377) a + S1x384x1024.size a ≤ S8x384x1024.size a) ∧
  (∀ (k0_h8 : k0_cond8 i = 1#1), ∀ a, (k0_off82 v377) a + S1x1024.size a ≤ S8x1024.size a)
theorem k0_off79_inb : ∀ (i : grid0.Coords) (v377 : BitVec 32) (k0_hw15 : k0_chk15 i v377), ∀ (k0_h8 : k0_cond8 i = 1#1), ∀ a, (k0_off79 v377) a + S1x384x1024.size a ≤ S8x384x1024.size a := fun i v377 k0_hw15 k0_h8 => k0_hw15.1 k0_h8
theorem k0_off82_inb : ∀ (i : grid0.Coords) (v377 : BitVec 32) (k0_hw15 : k0_chk15 i v377), ∀ (k0_h8 : k0_cond8 i = 1#1), ∀ a, (k0_off82 v377) a + S1x1024.size a ≤ S8x1024.size a := fun i v377 k0_hw15 k0_h8 => k0_hw15.2 k0_h8

def k0_off83 (v380 : BitVec 32) : Fin 2 → Nat :=
  let v412 : Index := Scalar.indexCast v380
  let c0_173 : Index := 0#32
  ![v412.toNat, 0]

def k0_chk16 (i : grid0.Coords) (v380 : BitVec 32) : Prop :=
  (∀ (k0_h8 : k0_cond8 i = 1#1), ∀ a, (k0_off80 v380) a + S1x384x1024.size a ≤ S8x384x1024.size a) ∧
  (∀ (k0_h8 : k0_cond8 i = 1#1), ∀ a, (k0_off83 v380) a + S1x1024.size a ≤ S8x1024.size a)
theorem k0_off80_inb : ∀ (i : grid0.Coords) (v380 : BitVec 32) (k0_hw16 : k0_chk16 i v380), ∀ (k0_h8 : k0_cond8 i = 1#1), ∀ a, (k0_off80 v380) a + S1x384x1024.size a ≤ S8x384x1024.size a := fun i v380 k0_hw16 k0_h8 => k0_hw16.1 k0_h8
theorem k0_off83_inb : ∀ (i : grid0.Coords) (v380 : BitVec 32) (k0_hw16 : k0_chk16 i v380), ∀ (k0_h8 : k0_cond8 i = 1#1), ∀ a, (k0_off83 v380) a + S1x1024.size a ≤ S8x1024.size a := fun i v380 k0_hw16 k0_h8 => k0_hw16.2 k0_h8

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c512_i32 : BitVec 32 := 512#32
  let c0_i32 : BitVec 32 := 0#32
  let c0_i32_0 : BitVec 32 := 0#32
  ![c512_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x64x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S384x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32x64x3x128 : Shape := ⟨4, ![32, 64, 3, 128]⟩
abbrev S32x1 : Shape := ⟨2, ![32, 1]⟩
abbrev S32x4096 : Shape := ⟨2, ![32, 4096]⟩
abbrev S4097x2048 : Shape := ⟨2, ![4097, 2048]⟩
abbrev S2048 : Shape := ⟨1, ![2048]⟩
abbrev S2048x8 : Shape := ⟨2, ![2048, 8]⟩
abbrev S8 : Shape := ⟨1, ![8]⟩
abbrev S8x384x1024 : Shape := ⟨3, ![8, 384, 1024]⟩
abbrev S8x1024 : Shape := ⟨2, ![8, 1024]⟩
abbrev S384x1024 : Shape := ⟨2, ![384, 1024]⟩
abbrev S1024 : Shape := ⟨1, ![1024]⟩
abbrev S32x4097 : Shape := ⟨2, ![32, 4097]⟩
abbrev S32x2048 : Shape := ⟨2, ![32, 2048]⟩
abbrev S1x2048 : Shape := ⟨2, ![1, 2048]⟩
abbrev S_ : Shape := ⟨0, ![]⟩
abbrev S32x8 : Shape := ⟨2, ![32, 8]⟩
abbrev S1x8 : Shape := ⟨2, ![1, 8]⟩
abbrev S32x2 : Shape := ⟨2, ![32, 2]⟩
abbrev S32 : Shape := ⟨1, ![32]⟩
abbrev S32x2x1 : Shape := ⟨3, ![32, 2, 1]⟩
abbrev S32x2x2 : Shape := ⟨3, ![32, 2, 2]⟩
abbrev S32x64x384 : Shape := ⟨3, ![32, 64, 384]⟩
abbrev S8x1024x32x64 : Shape := ⟨4, ![8, 1024, 32, 64]⟩
abbrev S8x32x64x1024 : Shape := ⟨4, ![8, 32, 64, 1024]⟩
abbrev S8x1x1x1024 : Shape := ⟨4, ![8, 1, 1, 1024]⟩
abbrev S32x64x1024 : Shape := ⟨3, ![32, 64, 1024]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32x64x3x128, .f32⟩
  | .hbm, ⟨1, _⟩ => ⟨S32x1, .f32⟩
  | .hbm, ⟨2, _⟩ => ⟨S32x4096, .f32⟩
  | .hbm, ⟨3, _⟩ => ⟨S4097x2048, .f32⟩
  | .hbm, ⟨4, _⟩ => ⟨S2048, .f32⟩
  | .hbm, ⟨5, _⟩ => ⟨S2048x8, .f32⟩
  | .hbm, ⟨6, _⟩ => ⟨S8, .f32⟩
  | .hbm, ⟨7, _⟩ => ⟨S8x384x1024, .f32⟩
  | .hbm, ⟨8, _⟩ => ⟨S8x1024, .f32⟩
  | .hbm, ⟨9, _⟩ => ⟨S384x1024, .f32⟩
  | .hbm, ⟨10, _⟩ => ⟨S1024, .f32⟩
  | .hbm, ⟨11, _⟩ => ⟨S32x4097, .f32⟩
  | .hbm, ⟨12, _⟩ => ⟨S32x2048, .f32⟩
  | .hbm, ⟨13, _⟩ => ⟨S1x2048, .f32⟩
  | .hbm, ⟨14, _⟩ => ⟨S32x2048, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x8, .f32⟩
  | .hbm, ⟨20, _⟩ => ⟨S1x8, .f32⟩
  | .hbm, ⟨21, _⟩ => ⟨S32x8, .f32⟩
  | .hbm, ⟨22, _⟩ => ⟨S32x8, .f32⟩
  | .hbm, ⟨23, _⟩ => ⟨S32x2, .f32⟩
  | .hbm, ⟨24, _⟩ => ⟨S32x2, .i32⟩
  | .hbm, ⟨25, _⟩ => ⟨S_, .i1⟩
  | .hbm, ⟨26, _⟩ => ⟨S32x8, .i1⟩
  | .hbm, ⟨27, _⟩ => ⟨S32, .i32⟩
  | .hbm, ⟨28, _⟩ => ⟨S32x1, .i32⟩
  | .hbm, ⟨29, _⟩ => ⟨S_, .i32⟩
  | .hbm, ⟨30, _⟩ => ⟨S32x1, .i32⟩
  | .hbm, ⟨31, _⟩ => ⟨S32x1, .i1⟩
  | .hbm, ⟨32, _⟩ => ⟨S_, .i32⟩
  | .hbm, ⟨33, _⟩ => ⟨S32x1, .i32⟩
  | .hbm, ⟨34, _⟩ => ⟨S32x1, .i32⟩
  | .hbm, ⟨35, _⟩ => ⟨S32x1, .i32⟩
  | .hbm, ⟨36, _⟩ => ⟨S_, .i32⟩
  | .hbm, ⟨37, _⟩ => ⟨S32x2, .i32⟩
  | .hbm, ⟨38, _⟩ => ⟨S32x2, .i1⟩
  | .hbm, ⟨39, _⟩ => ⟨S_, .i32⟩
  | .hbm, ⟨40, _⟩ => ⟨S32x2, .i32⟩
  | .hbm, ⟨41, _⟩ => ⟨S32x2, .i32⟩
  | .hbm, ⟨42, _⟩ => ⟨S32x2, .i32⟩
  | .hbm, ⟨43, _⟩ => ⟨S32x2, .i32⟩
  | .hbm, ⟨44, _⟩ => ⟨S32x2x1, .i32⟩
  | .hbm, ⟨45, _⟩ => ⟨S32x2x1, .i32⟩
  | .hbm, ⟨46, _⟩ => ⟨S32x2x2, .i32⟩
  | .hbm, ⟨47, _⟩ => ⟨S_, .i1⟩
  | .hbm, ⟨48, _⟩ => ⟨S32x2, .i1⟩
  | .hbm, ⟨49, _⟩ => ⟨S32x8, .i1⟩
  | .hbm, ⟨50, _⟩ => ⟨S_, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32x1, .f32⟩
  | .hbm, ⟨56, _⟩ => ⟨S32x8, .f32⟩
  | .hbm, ⟨57, _⟩ => ⟨S32x8, .f32⟩
  | .hbm, ⟨58, _⟩ => ⟨S32x8, .f32⟩
  | .hbm, ⟨59, _⟩ => ⟨S_, .f32⟩
  | .hbm, ⟨60, _⟩ => ⟨S32, .f32⟩
  | .hbm, ⟨61, _⟩ => ⟨S32x1, .f32⟩
  | .hbm, ⟨62, _⟩ => ⟨S32x8, .f32⟩
  | .hbm, ⟨63, _⟩ => ⟨S32x8, .f32⟩
  | .hbm, ⟨64, _⟩ => ⟨S32x8, .f32⟩
  | .hbm, ⟨65, _⟩ => ⟨S32x8, .f32⟩
  | .hbm, ⟨66, _⟩ => ⟨S_, .f32⟩
  | .hbm, ⟨67, _⟩ => ⟨S32, .f32⟩
  | .hbm, ⟨68, _⟩ => ⟨S32x1, .f32⟩
  | .hbm, ⟨69, _⟩ => ⟨S_, .f32⟩
  | .hbm, ⟨70, _⟩ => ⟨S32x1, .f32⟩
  | .hbm, ⟨71, _⟩ => ⟨S32x1, .f32⟩
  | .hbm, ⟨72, _⟩ => ⟨S32x8, .f32⟩
  | .hbm, ⟨73, _⟩ => ⟨S32x8, .f32⟩
  | .hbm, ⟨74, _⟩ => ⟨S32x64x384, .f32⟩
  | .hbm, ⟨75, _⟩ => ⟨S8x1024x32x64, .f32⟩
  | .hbm, ⟨76, _⟩ => ⟨S8x32x64x1024, .f32⟩
  | .hbm, ⟨77, _⟩ => ⟨S8x1x1x1024, .f32⟩
  | .hbm, ⟨78, _⟩ => ⟨S8x32x64x1024, .f32⟩
  | .hbm, ⟨79, _⟩ => ⟨S8x32x64x1024, .f32⟩
  | .hbm, ⟨80, _⟩ => ⟨S32x64x1024, .f32⟩
  | .hbm, ⟨81, _⟩ => ⟨S32x64x1024, .bf16⟩
  | .hbm, ⟨82, _⟩ => ⟨S32x64x1024, .f32⟩
  | .hbm, ⟨83, _⟩ => ⟨S1x1x1024, .f32⟩
  | .hbm, ⟨84, _⟩ => ⟨S32x64x1024, .f32⟩
  | .hbm, ⟨85, _⟩ => ⟨S32x64x1024, .f32⟩
  | .hbm, ⟨86, _⟩ => ⟨S32x64x1024, .f32⟩
  | .hbm, ⟨87, _⟩ => ⟨S32x64x1024, .f32⟩
  | _, _ => ⟨S32x64x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.Body.lean ====
/-
  What one grid point of the fused kernel does to the buffers it touches, as triples over any float operations.
  Five kinds of point: the first, the two in the middle of the first half, the one that routes and starts the copy
  of the packed routing words, the one that waits for that copy, and the rest.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.Tactic.Stretches
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Core `c` holds the memref whole, reading `X`. -/
abbrev hold (c : Dev nD) {sp : Space} {sh : Shape} {e : EltTy} (m : Memref sig .tc sp sh e) (X : sh.Idx → Elt F e) : sProp 𝕄 :=
  owns (c : Thread nD τ) m fullShare X

/-- Contents that read `X` hold the memref at `X`. -/
theorem hold_of (c : Dev nD) {sp : Space} {sh : Shape} {e : EltTy} (m : Memref sig .tc sp sh e) {X : sh.Idx → Elt F e}
    {f : m.view.ty.Contents (Elt F)} (h : m.view.read (Elt F) f = X) :
    (m.view.loc (c : Thread nD τ) ↦[m.view.set]{fullShare} f : sProp 𝕄)
      ⊢ iprop(∃ g, ⌜m.view.read (Elt F) g = X⌝ ∗ (m.view.loc (c : Thread nD τ) ↦[m.view.set]{fullShare} g)) := by
  iintro H
  iexists f
  isplitr
  · ipureintro; exact h
  · iexact H

abbrev sAcc : Memref sig .tc .vmem S32x2048 .f32 := Memref.whole cc0_scratch0
abbrev sWe : Memref sig .tc .vmem S8x384x1024 .bf16 := Memref.whole cc0_scratch1
abbrev sWg : Memref sig .tc .vmem S384x1024 .bf16 := Memref.whole cc0_scratch2
abbrev sX : Memref sig .tc .vmem S2048x384 .bf16 := Memref.whole cc0_scratch3
abbrev sY : Memref sig .tc .vmem S2048x1024 .f32 := Memref.whole cc0_scratch4
abbrev sPack : Memref sig .tc .vmem S32x4 .f32 := Memref.whole cc0_scratch5
abbrev sWords : Memref sig .tc .smem S32x4 .f32 := Memref.whole cc0_scratch6

/-- The packed routing words a batch of samples gets: from the cycle numbers, the last row of the first gate matrix, the
    accumulated product, and the rest of the gate. -/
def packOf (cyc : Vec F S32x1 .f32) (w1c : Vec F S1x2048 .f32) (acc : Vec F S32x2048 .f32) (b1 : Vec F S1x2048 .f32)
    (w2 : Vec F S2048x8 .f32) (b2 : Vec F S1x8 .f32) : Vec F S32x4 .f32 :=
  k0_pay9 (k0_pay11 cyc w1c acc b1 w2 b2) (iota .tc S32x8 32 [1] iota_S32x8_d1_w32) (k0_pay12 cyc w1c acc b1 w2 b2)
    (k0_pay13 cyc w1c acc b1 w2 b2) (k0_pay14 cyc w1c acc b1 w2 b2) (k0_pay15 cyc w1c acc b1 w2 b2) (k0_pay16 cyc w1c acc b1 w2 b2)

/-- The copy of the packed words `P` into scalar memory, on its way: both buffers are its own until it is waited for. -/
def flying (c : Dev nD) (P : Vec F S32x4 .f32) : sProp 𝕄 :=
  iprop(∃ (fd : Buf (Elt F) (sWords.view.loc (c : Thread nD τ))) (fs : Buf (Elt F) (sPack.view.loc (c : Thread nD τ))),
    ⌜sWords.view.read (Elt F) fd = P⌝ ∗ ⌜sPack.view.read (Elt F) fs = P⌝
    ∗ Transfers.Flight countersEmb (c : Thread nD τ) (SemLoc.dma 18) default 512
        iprop((sWords.view.loc (c : Thread nD τ) ↦[sWords.view.set]{fullShare} fd) ∗ (sPack.view.loc (c : Thread nD τ) ↦[sPack.view.set]{fullShare} fs)))

/-- The first of the eight rows a block of the first gate matrix's tail holds. -/
def firstRow (x : Vec F S8x2048 .f32) : Vec F S1x2048 .f32 := VecWindow.window x ![0, 0] S1x2048.size inb_S8x2048_S1x2048_0_0

section Runs

variable (c : Dev nD) (i : grid0.Coords)
  (arg1 : Memref sig .tc .vmem S32x1024 .f32) (harg1 : arg1.IsWhole) (arg2 : Memref sig .tc .vmem S32x1 .f32) (harg2 : arg2.IsWhole)
  (arg3 : Memref sig .tc .vmem S1024x2048 .f32) (harg3 : arg3.IsWhole) (arg4 : Memref sig .tc .vmem S8x2048 .f32) (harg4 : arg4.IsWhole)
  (arg5 : Memref sig .tc .vmem S1x2048 .f32) (harg5 : arg5.IsWhole) (arg6 : Memref sig .tc .vmem S2048x8 .f32) (harg6 : arg6.IsWhole)
  (arg7 : Memref sig .tc .vmem S1x8 .f32) (harg7 : arg7.IsWhole) (arg8 : Memref sig .tc .vmem S8x64x3x128 .f32) (harg8 : arg8.IsWhole)
  (arg9 : Memref sig .tc .vmem S2x384x1024 .f32) (harg9 : arg9.IsWhole) (arg10 : Memref sig .tc .vmem S384x1024 .f32) (harg10 : arg10.IsWhole)
  (arg11 : Memref sig .tc .vmem S8x1024 .f32) (harg11 : arg11.IsWhole) (arg12 : Memref sig .tc .vmem S1x1024 .f32) (harg12 : arg12.IsWhole)
  (arg13 : Memref sig .tc .vmem S8x64x1024 .f32) (harg13 : arg13.IsWhole)

local notation "kern" => cc0__fused_kernel (F := F) i arg1 harg1 arg2 harg2 arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7

/-- The condition a branch on the grid coordinate tests, as printed: the coordinate equals `n`. -/
abbrev atPoint (i : grid0.Coords) (n : BitVec 32) : Prop := Scalar.cmpi .ne (Scalar.extui (Scalar.cmpi .eq (BitVec.ofNat 32 (i 0).val) n) : BitVec 32) 0#32 = 1#1
abbrev afterFirst (i : grid0.Coords) : Prop := Scalar.cmpi .ne (Scalar.extui (Scalar.cmpi .sgt (BitVec.ofNat 32 (i 0).val) 0#32) : BitVec 32) 0#32 = 1#1
abbrev inFirstHalf (i : grid0.Coords) : Prop := Scalar.cmpi .ne (Scalar.extui (Scalar.cmpi .slt (BitVec.ofNat 32 (i 0).val) 4#32) : BitVec 32) 0#32 = 1#1

/-- A middle point of the first half: one more block of the weights, of the data and of the two products. -/
theorem run_middle (h0 : ¬ atPoint i 0#32) (h2 : k0_cond2 i = 1#1) (h3 : inFirstHalf i) (h5 : afterFirst i) (h6 : ¬ atPoint i 3#32)
    (h7 : ¬ atPoint i 4#32) (h8 : ¬ k0_cond8 i = 1#1)
    (X1 : Vec F S32x1024 .f32) (X3 : Vec F S1024x2048 .f32) (X8 : Vec F S8x64x3x128 .f32) (X9 : Vec F S2x384x1024 .f32)
    (A : Vec F S32x2048 .f32) (B : Vec F S8x384x1024 .bf16) (Wg : Vec F S384x1024 .bf16) (C : Vec F S2048x384 .bf16) (D : Vec F S2048x1024 .f32)
    (K : PUnit → sProp 𝕄) :
    iprop(hold c arg1 X1 ∗ hold c arg3 X3 ∗ hold c arg8 X8 ∗ hold c arg9 X9
      ∗ hold c sAcc A ∗ hold c sWe B ∗ hold c sWg Wg ∗ hold c sX C ∗ hold c sY D
      ∗ ((hold c arg1 X1 ∗ hold c arg3 X3 ∗ hold c arg8 X8 ∗ hold c arg9 X9
        ∗ hold c sAcc (k0_pay8 X1 X3 A)
        ∗ hold c sWe (VecWindow.put B (k0_off1 i) S2x384x1024.size (k0_pay2 X9))
        ∗ hold c sWg Wg
        ∗ hold c sX (VecWindow.put C (k0_off2 i) S512x384.size (k0_pay4 X8))
        ∗ hold c sY (VecWindow.put D (k0_off3 i) S512x1024.size (k0_pay5 X8 Wg))) -∗ K ⟨⟩))
    ⊢ wp frame (wpE (defs₀ (F := F)) Variants.none (c : Thread nD τ) none) Set.univ kern K := by
  simp only [cc0__fused_kernel_eq_skeleton]
  unfold cc0__fused_kernel_skel
  unfold hold owns
  iintro ⟨⟨%f1, %e1, H1⟩, ⟨%f3, %e3, H3⟩, ⟨%f8, %e8, H8⟩, ⟨%f9, %e9, H9⟩, ⟨%fA, %eA, HA⟩, ⟨%fB, %eB, HB⟩, ⟨%fW, %eW, HW⟩, ⟨%fC, %eC, HC⟩, ⟨%fD, %eD, HD⟩, Hk⟩
  subst e1 e3 e8 e9 eA eB eW eC eD
  sl_exec
  sl_step
  iapply Hk
  isplitl [H1]; · iapply (hold_of c arg1 rfl); iexact H1
  isplitl [H3]; · iapply (hold_of c arg3 rfl); iexact H3
  isplitl [H8]; · iapply (hold_of c arg8 rfl); iexact H8
  isplitl [H9]; · iapply (hold_of c arg9 rfl); iexact H9
  isplitl [HA]
  · iapply (hold_of c sAcc ?_); swap; · iexact HA
    rw [View.read_writes_full]; repeat rw [View.readAt_full]
  isplitl [HB]
  · iapply (hold_of c sWe ?_); swap; · iexact HB
    rw [View.read_writes_cons_put _ _ _ _ _ rfl]; repeat rw [View.readAt_full]
    rfl
  isplitl [HW]; · iapply (hold_of c sWg rfl); iexact HW
  isplitl [HC]
  · iapply (hold_of c sX ?_); swap; · iexact HC
    rw [View.read_writes_cons_put _ _ _ _ _ rfl]; repeat rw [View.readAt_full]
    rfl
  · iapply (hold_of c sY ?_); swap; · iexact HD
    rw [View.read_writes_cons_put _ _ _ _ _ rfl]; repeat rw [View.readAt_full]
    rfl

/-- The first point: the weights and the data of the first blocks, and the accumulator's first product. -/
theorem run_first (h0 : atPoint i 0#32) (h2 : k0_cond2 i = 1#1) (h3 : inFirstHalf i) (h5 : ¬ afterFirst i) (h6 : ¬ atPoint i 3#32)
    (h7 : ¬ atPoint i 4#32) (h8 : ¬ k0_cond8 i = 1#1)
    (X1 : Vec F S32x1024 .f32) (X3 : Vec F S1024x2048 .f32) (X8 : Vec F S8x64x3x128 .f32) (X9 : Vec F S2x384x1024 .f32) (X10 : Vec F S384x1024 .f32)
    (A : Vec F S32x2048 .f32) (B : Vec F S8x384x1024 .bf16) (Wg : Vec F S384x1024 .bf16) (C : Vec F S2048x384 .bf16) (D : Vec F S2048x1024 .f32)
    (K : PUnit → sProp 𝕄) :
    iprop(hold c arg1 X1 ∗ hold c arg3 X3 ∗ hold c arg8 X8 ∗ hold c arg9 X9 ∗ hold c arg10 X10
      ∗ hold c sAcc A ∗ hold c sWe B ∗ hold c sWg Wg ∗ hold c sX C ∗ hold c sY D
      ∗ ((hold c arg1 X1 ∗ hold c arg3 X3 ∗ hold c arg8 X8 ∗ hold c arg9 X9 ∗ hold c arg10 X10
        ∗ hold c sAcc (k0_pay7 X1 X3)
        ∗ hold c sWe (VecWindow.put B (k0_off1 i) S2x384x1024.size (k0_pay2 X9))
        ∗ hold c sWg (k0_pay1 X10)
        ∗ hold c sX (VecWindow.put C (k0_off2 i) S512x384.size (k0_pay4 X8))
        ∗ hold c sY (VecWindow.put D (k0_off3 i) S512x1024.size (k0_pay5 X8 (k0_pay1 X10)))) -∗ K ⟨⟩))
    ⊢ wp frame (wpE (defs₀ (F := F)) Variants.none (c : Thread nD τ) none) Set.univ kern K := by
  simp only [cc0__fused_kernel_eq_skeleton]
  unfold cc0__fused_kernel_skel
  unfold hold owns
  iintro ⟨⟨%f1, %e1, H1⟩, ⟨%f3, %e3, H3⟩, ⟨%f8, %e8, H8⟩, ⟨%f9, %e9, H9⟩, ⟨%f10, %e10, H10⟩, ⟨%fA, %eA, HA⟩, ⟨%fB, %eB, HB⟩, ⟨%fW, %eW, HW⟩, ⟨%fC, %eC, HC⟩, ⟨%fD, %eD, HD⟩, Hk⟩
  subst e1 e3 e8 e9 e10 eA eB eW eC eD
  sl_exec
  sl_step
  iapply Hk
  isplitl [H1]; · iapply (hold_of c arg1 rfl); iexact H1
  isplitl [H3]; · iapply (hold_of c arg3 rfl); iexact H3
  isplitl [H8]; · iapply (hold_of c arg8 rfl); iexact H8
  isplitl [H9]; · iapply (hold_of c arg9 rfl); iexact H9
  isplitl [H10]; · iapply (hold_of c arg10 rfl); iexact H10
  isplitl [HA]
  · iapply (hold_of c sAcc ?_); swap; · iexact HA
    rw [View.read_writes_full]; repeat rw [View.readAt_full]
  isplitl [HB]
  · iapply (hold_of c sWe ?_); swap; · iexact HB
    rw [View.read_writes_cons_put _ _ _ _ _ rfl]; repeat rw [View.readAt_full]
    rfl
  isplitl [HW]
  · iapply (hold_of c sWg ?_); swap; · iexact HW
    sl_open_run
    rw [View.read_writes_full]; repeat rw [View.readAt_full]
  isplitl [HC]
  · iapply (hold_of c sX ?_); swap; · iexact HC
    rw [View.read_writes_cons_put _ _ _ _ _ rfl]; repeat rw [View.readAt_full]
    rfl
  · iapply (hold_of c sY ?_); swap; · iexact HD
    sl_open_run
    rw [View.read_writes_cons_put _ _ _ _ _ rfl, View.readCov_full]; repeat rw [View.readAt_full]
    rfl

/-- The last point of the first half: the blocks of a middle point, then the routing, packed into words whose copy is started. -/
theorem run_route (h0 : ¬ atPoint i 0#32) (h2 : k0_cond2 i = 1#1) (h3 : inFirstHalf i) (h5 : afterFirst i) (h6 : atPoint i 3#32)
    (h7 : ¬ atPoint i 4#32) (h8 : ¬ k0_cond8 i = 1#1)
    (X1 : Vec F S32x1024 .f32) (X2 : Vec F S32x1 .f32) (X3 : Vec F S1024x2048 .f32) (X4 : Vec F S8x2048 .f32) (X5 : Vec F S1x2048 .f32)
    (X6 : Vec F S2048x8 .f32) (X7 : Vec F S1x8 .f32) (X8 : Vec F S8x64x3x128 .f32) (X9 : Vec F S2x384x1024 .f32)
    (A : Vec F S32x2048 .f32) (B : Vec F S8x384x1024 .bf16) (Wg : Vec F S384x1024 .bf16) (C : Vec F S2048x384 .bf16) (D : Vec F S2048x1024 .f32)
    (E G : Vec F S32x4 .f32) (W : Waits sig Unit)
    (K : PUnit → sProp 𝕄) :
    iprop(hold c arg1 X1 ∗ hold c arg2 X2 ∗ hold c arg3 X3 ∗ hold c arg4 X4 ∗ hold c arg5 X5 ∗ hold c arg6 X6 ∗ hold c arg7 X7
      ∗ hold c arg8 X8 ∗ hold c arg9 X9
      ∗ hold c sAcc A ∗ hold c sWe B ∗ hold c sWg Wg ∗ hold c sX C ∗ hold c sY D ∗ hold c sPack E ∗ hold c sWords G
      ∗ semVal ((c : Thread nD τ), SemLoc.dma 18) 0 ∗ owes (c : Thread nD τ) 0 W
      ∗ ((hold c arg1 X1 ∗ hold c arg2 X2 ∗ hold c arg3 X3 ∗ hold c arg4 X4 ∗ hold c arg5 X5 ∗ hold c arg6 X6 ∗ hold c arg7 X7
        ∗ hold c arg8 X8 ∗ hold c arg9 X9
        ∗ hold c sAcc (k0_pay8 X1 X3 A)
        ∗ hold c sWe (VecWindow.put B (k0_off1 i) S2x384x1024.size (k0_pay2 X9))
        ∗ hold c sWg Wg
        ∗ hold c sX (VecWindow.put C (k0_off2 i) S512x384.size (k0_pay4 X8))
        ∗ hold c sY (VecWindow.put D (k0_off3 i) S512x1024.size (k0_pay5 X8 Wg))
        ∗ flying c (packOf X2 (firstRow X4) (k0_pay8 X1 X3 A) X5 X6 X7) ∗ owes (c : Thread nD τ) 0 W) -∗ K ⟨⟩))
    ⊢ wp frame (wpE (defs₀ (F := F)) Variants.none (c : Thread nD τ) none) Set.univ kern K := by
  simp only [cc0__fused_kernel_eq_skeleton, k0_part1_eq_skeleton]
  unfold cc0__fused_kernel_skel
  unfold hold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%fA, %eA, HA⟩, ⟨%fB, %eB, HB⟩, ⟨%fW, %eW, HW⟩, ⟨%fC, %eC, HC⟩, ⟨%fD, %eD, HD⟩, ⟨%fE, %eE, HE⟩, ⟨%fG, %eG, HG⟩, Hs, HO, Hk⟩
  subst e1 e2 e3 e4 e5 e6 e7 e8 e9 eA eB eW eC eD eE eG
  sl_exec
  sl_step
  iapply Hk
  isplitl [H1]; · iapply (hold_of c arg1 rfl); iexact H1
  isplitl [H2]; · iapply (hold_of c arg2 rfl); iexact H2
  isplitl [H3]; · iapply (hold_of c arg3 rfl); iexact H3
  isplitl [H4]; · iapply (hold_of c arg4 rfl); iexact H4
  isplitl [H5]; · iapply (hold_of c arg5 rfl); iexact H5
  isplitl [H6]; · iapply (hold_of c arg6 rfl); iexact H6
  isplitl [H7]; · iapply (hold_of c arg7 rfl); iexact H7
  isplitl [H8]; · iapply (hold_of c arg8 rfl); iexact H8
  isplitl [H9]; · iapply (hold_of c arg9 rfl); iexact H9
  isplitl [HA]
  · iapply (hold_of c sAcc ?_); swap; · iexact HA
    sl_open_run
    rw [View.read_writes_full]; repeat rw [View.readAt_full]
  isplitl [HB]
  · iapply (hold_of c sWe ?_); swap; · iexact HB
    rw [View.read_writes_cons_put _ _ _ _ _ rfl]; repeat rw [View.readAt_full]
    rfl
  isplitl [HW]; · iapply (hold_of c sWg rfl); iexact HW
  isplitl [HC]
  · iapply (hold_of c sX ?_); swap; · iexact HC
    rw [View.read_writes_cons_put _ _ _ _ _ rfl]; repeat rw [View.readAt_full]
    rfl
  isplitl [HD]
  · iapply (hold_of c sY ?_); swap; · iexact HD
    rw [View.read_writes_cons_put _ _ _ _ _ rfl]; repeat rw [View.readAt_full]
    rfl
  isplitl [Hs]
  · unfold flying
    iexists _, _
    isplitr; swap
    · isplitr; swap
      · iexact Hs
      · ipureintro
        sl_open_run
        rw [View.read_writes_full]; repeat rw [View.readAt_full]
        rw [View.readCov_full]; repeat rw [View.readAt_full]
        rw [View.readAt_unit arg4.view f4 _ rfl inb_S8x2048_S1x2048_0_0]
        rfl
    · ipureintro
      sl_open_run
      rw [View.read_writes_whole]
      show View.read (Elt F) sPack.view _ = _
      rw [View.read_writes_full]; repeat rw [View.readAt_full]
      rw [View.readCov_full]; repeat rw [View.readAt_full]
      rw [View.readAt_unit arg4.view f4 _ rfl inb_S8x2048_S1x2048_0_0]
      rfl
  iexact HO

end Runs

end Cert.KernelIdeal.Hand

end
-- ==== Proof.Experts.lean ====
/-
  A point of the second half: eight samples, each mixed from the two experts its packed words name.
-/
module

public import proofs.«01_k».proof.Proof.Body
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- A word below 8 keeps both windows it picks inside the expert arrays. -/
theorem check_of_lt (i : grid0.Coords) (w : BitVec 32) (h : w.toNat < 8) : k0_chk1 i w := by
  have e9 : k0_off9 w = ![w.toNat, 0, 0] := rfl
  have e12 : k0_off12 w = ![w.toNat, 0] := rfl
  refine ⟨fun _ => ?_, fun _ => ?_⟩
  · rw [e9]; intro a; fin_cases a <;> simp [S1x384x1024, S8x384x1024] <;> omega
  · rw [e12]; intro a; fin_cases a <;> simp [S1x1024, S8x1024] <;> omega

/-- A word loaded from the first two columns of the packed words is in range when all of those are. -/
theorem word_lt (f : sWords.view.ty.Contents (Elt F))
    (hG : ∀ y : S32x4.Idx, (y 1).val < 2 → (Scalar.fptosi (F := F) (φ := .f32) 32 (sWords.view.read (Elt F) f y)).toNat < 8)
    (off : Fin 2 → ℕ) (inb : ∀ a, off a + S1x1.size a ≤ S32x4.size a) (z : S1x1.Idx) (h : off 1 < 2) :
    (Scalar.fptosi (F := F) (φ := .f32) 32 (sWords.view.readAt (Elt F) (Rect.unit (s := S32x4) off S1x1.size inb).toLoadRect f z)).toNat < 8 := by
  refine hG ((Rect.unit (s := S32x4) off S1x1.size inb).emb z) ?_
  have e : (((Rect.unit (s := S32x4) off S1x1.size inb).emb z) 1).val = off 1 + 1 * (z 1).val := rfl
  have hz : (z 1).val < 1 := (z 1).isLt
  omega

/-- Where the eight samples of a point of the second half lie: their rows of the packed words and of the two arrays of products. -/
theorem sample_offsets (i : grid0.Coords) (h8 : k0_cond8 i = 1#1) :
    k0_off4 i = ![8 * ((i 0).val - 4) + 0, 0] ∧ k0_off5 i = ![8 * ((i 0).val - 4) + 0, 1] ∧ k0_off6 i = ![8 * ((i 0).val - 4) + 0, 2] ∧ k0_off7 i = ![8 * ((i 0).val - 4) + 0, 3] ∧ k0_off8 i = ![64 * (8 * ((i 0).val - 4) + 0), 0] ∧ k0_off11 i = ![64 * (8 * ((i 0).val - 4) + 0), 0] ∧
    k0_off14 i = ![8 * ((i 0).val - 4) + 1, 0] ∧ k0_off15 i = ![8 * ((i 0).val - 4) + 1, 1] ∧ k0_off16 i = ![8 * ((i 0).val - 4) + 1, 2] ∧ k0_off17 i = ![8 * ((i 0).val - 4) + 1, 3] ∧ k0_off18 i = ![64 * (8 * ((i 0).val - 4) + 1), 0] ∧ k0_off21 i = ![64 * (8 * ((i 0).val - 4) + 1), 0] ∧
    k0_off24 i = ![8 * ((i 0).val - 4) + 2, 0] ∧ k0_off25 i = ![8 * ((i 0).val - 4) + 2, 1] ∧ k0_off26 i = ![8 * ((i 0).val - 4) + 2, 2] ∧ k0_off27 i = ![8 * ((i 0).val - 4) + 2, 3] ∧ k0_off28 i = ![64 * (8 * ((i 0).val - 4) + 2), 0] ∧ k0_off31 i = ![64 * (8 * ((i 0).val - 4) + 2), 0] ∧
    k0_off34 i = ![8 * ((i 0).val - 4) + 3, 0] ∧ k0_off35 i = ![8 * ((i 0).val - 4) + 3, 1] ∧ k0_off36 i = ![8 * ((i 0).val - 4) + 3, 2] ∧ k0_off37 i = ![8 * ((i 0).val - 4) + 3, 3] ∧ k0_off38 i = ![64 * (8 * ((i 0).val - 4) + 3), 0] ∧ k0_off41 i = ![64 * (8 * ((i 0).val - 4) + 3), 0] ∧
    k0_off44 i = ![8 * ((i 0).val - 4) + 4, 0] ∧ k0_off45 i = ![8 * ((i 0).val - 4) + 4, 1] ∧ k0_off46 i = ![8 * ((i 0).val - 4) + 4, 2] ∧ k0_off47 i = ![8 * ((i 0).val - 4) + 4, 3] ∧ k0_off48 i = ![64 * (8 * ((i 0).val - 4) + 4), 0] ∧ k0_off51 i = ![64 * (8 * ((i 0).val - 4) + 4), 0] ∧
    k0_off54 i = ![8 * ((i 0).val - 4) + 5, 0] ∧ k0_off55 i = ![8 * ((i 0).val - 4) + 5, 1] ∧ k0_off56 i = ![8 * ((i 0).val - 4) + 5, 2] ∧ k0_off57 i = ![8 * ((i 0).val - 4) + 5, 3] ∧ k0_off58 i = ![64 * (8 * ((i 0).val - 4) + 5), 0] ∧ k0_off61 i = ![64 * (8 * ((i 0).val - 4) + 5), 0] ∧
    k0_off64 i = ![8 * ((i 0).val - 4) + 6, 0] ∧ k0_off65 i = ![8 * ((i 0).val - 4) + 6, 1] ∧ k0_off66 i = ![8 * ((i 0).val - 4) + 6, 2] ∧ k0_off67 i = ![8 * ((i 0).val - 4) + 6, 3] ∧ k0_off68 i = ![64 * (8 * ((i 0).val - 4) + 6), 0] ∧ k0_off71 i = ![64 * (8 * ((i 0).val - 4) + 6), 0] ∧
    k0_off74 i = ![8 * ((i 0).val - 4) + 7, 0] ∧ k0_off75 i = ![8 * ((i 0).val - 4) + 7, 1] ∧ k0_off76 i = ![8 * ((i 0).val - 4) + 7, 2] ∧ k0_off77 i = ![8 * ((i 0).val - 4) + 7, 3] ∧ k0_off78 i = ![64 * (8 * ((i 0).val - 4) + 7), 0] ∧ k0_off81 i = ![64 * (8 * ((i 0).val - 4) + 7), 0] := by
  repeat' apply And.intro
  all_goals revert h8; revert i; decide +kernel

/-- The packed word at the position `off`. -/
def wordAt (G : Vec F S32x4 .f32) (off : Fin 2 → ℕ) : F .f32 := G (ix2 ⟨off 0 % 32, Nat.mod_lt _ (by decide)⟩ ⟨off 1 % 4, Nat.mod_lt _ (by decide)⟩)
/-- The 64 rows of the data from row `off 0` on. -/
def rowsAt (X : Vec F S2048x384 .bf16) (off : Fin 2 → ℕ) : Vec F S64x384 .bf16 := fun y => X (ix2 ⟨(off 0 + (y 0).val) % 2048, Nat.mod_lt _ (by decide)⟩ (y 1))
/-- The 64 rows of the general expert's products from row `off 0` on. -/
def yrowsAt (Y : Vec F S2048x1024 .f32) (off : Fin 2 → ℕ) : Vec F S64x1024 .f32 := fun y => Y (ix2 ⟨(off 0 + (y 0).val) % 2048, Nat.mod_lt _ (by decide)⟩ (y 1))
/-- The weights of expert `off 0`. -/
def slabAt (W : Vec F S8x384x1024 .bf16) (off : Fin 3 → ℕ) : Vec F S1x384x1024 .bf16 := fun y => W (ix3 ⟨off 0 % 8, Nat.mod_lt _ (by decide)⟩ (y 1) (y 2))
/-- The bias of expert `off 0`. -/
def browAt (BE : Vec F S8x1024 .f32) (off : Fin 2 → ℕ) : Vec F S1x1024 .f32 := fun y => BE (ix2 ⟨off 0 % 8, Nat.mod_lt _ (by decide)⟩ (y 1))

theorem load_word (f : sWords.view.ty.Contents (Elt F)) (off : Fin 2 → ℕ) (inb : ∀ a, off a + S1x1.size a ≤ S32x4.size a) (z : S1x1.Idx) :
    sWords.view.readAt (Elt F) (Rect.unit (s := S32x4) off S1x1.size inb).toLoadRect f z = wordAt (F := F) (sWords.view.read (Elt F) f) off := by
  refine congrArg (sWords.view.read (Elt F) f) (funext fun a => Fin.ext ?_)
  have h0 := inb 0; have h1 := inb 1
  simp only [Fin.isValue, Matrix.cons_val_zero, Matrix.cons_val_one] at h0 h1
  have z0 : (z 0).val < 1 := (z 0).isLt
  have z1 : (z 1).val < 1 := (z 1).isLt
  fin_cases a
  · show off 0 + 1 * (z 0).val = off 0 % 32; omega
  · show off 1 + 1 * (z 1).val = off 1 % 4; omega

theorem load_rows (f : sX.view.ty.Contents (Elt F)) (off : Fin 2 → ℕ) (inb : ∀ a, off a + S64x384.size a ≤ S2048x384.size a) :
    sX.view.readAt (Elt F) (Rect.unit (s := S2048x384) off S64x384.size inb).toLoadRect f = rowsAt (F := F) (sX.view.read (Elt F) f) off := by
  funext z
  refine congrArg (sX.view.read (Elt F) f) (funext fun a => Fin.ext ?_)
  have h0 := inb 0; have h1 := inb 1
  simp only [Fin.isValue, Matrix.cons_val_zero, Matrix.cons_val_one] at h0 h1
  have z0 : (z 0).val < 64 := (z 0).isLt
  fin_cases a
  · show off 0 + 1 * (z 0).val = (off 0 + (z 0).val) % 2048; omega
  · show off 1 + 1 * (z 1).val = (z 1).val; omega
theorem load_yrows (f : sY.view.ty.Contents (Elt F)) (off : Fin 2 → ℕ) (inb : ∀ a, off a + S64x1024.size a ≤ S2048x1024.size a) :
    sY.view.readAt (Elt F) (Rect.unit (s := S2048x1024) off S64x1024.size inb).toLoadRect f = yrowsAt (F := F) (sY.view.read (Elt F) f) off := by
  funext z
  refine congrArg (sY.view.read (Elt F) f) (funext fun a => Fin.ext ?_)
  have h0 := inb 0; have h1 := inb 1
  simp only [Fin.isValue, Matrix.cons_val_zero, Matrix.cons_val_one] at h0 h1
  have z0 : (z 0).val < 64 := (z 0).isLt
  fin_cases a
  · show off 0 + 1 * (z 0).val = (off 0 + (z 0).val) % 2048; omega
  · show off 1 + 1 * (z 1).val = (z 1).val; omega
theorem load_slab (f : sWe.view.ty.Contents (Elt F)) (off : Fin 3 → ℕ) (inb : ∀ a, off a + S1x384x1024.size a ≤ S8x384x1024.size a) :
    sWe.view.readAt (Elt F) (Rect.unit (s := S8x384x1024) off S1x384x1024.size inb).toLoadRect f = slabAt (F := F) (sWe.view.read (Elt F) f) off := by
  funext z
  refine congrArg (sWe.view.read (Elt F) f) (funext fun a => Fin.ext ?_)
  have h0 := inb 0; have h1 := inb 1; have h2 := inb 2
  simp only [Fin.isValue, Matrix.cons_val_zero, Matrix.cons_val_one, Matrix.cons_val] at h0 h1 h2
  have z0 : (z 0).val < 1 := (z 0).isLt
  fin_cases a
  · show off 0 + 1 * (z 0).val = off 0 % 8; omega
  · show off 1 + 1 * (z 1).val = (z 1).val; omega
  · show off 2 + 1 * (z 2).val = (z 2).val; omega
theorem load_brow {m : Memref sig .tc .vmem S8x1024 .f32} (f : m.view.ty.Contents (Elt F)) (off : Fin 2 → ℕ) (inb : ∀ a, off a + S1x1024.size a ≤ S8x1024.size a) :
    m.view.readAt (Elt F) (Rect.unit (s := S8x1024) off S1x1024.size inb).toLoadRect f = browAt (F := F) (m.view.read (Elt F) f) off := by
  funext z
  refine congrArg (m.view.read (Elt F) f) (funext fun a => Fin.ext ?_)
  have h0 := inb 0; have h1 := inb 1
  simp only [Fin.isValue, Matrix.cons_val_zero, Matrix.cons_val_one] at h0 h1
  have z0 : (z 0).val < 1 := (z 0).isLt
  fin_cases a
  · show off 0 + 1 * (z 0).val = off 0 % 8; omega
  · show off 1 + 1 * (z 1).val = (z 1).val; omega

/-- What sample `b` gets: its general product and bias, and the two experts its packed words name, each by its share. -/
def sampleOut (G : Vec F S32x4 .f32) (X : Vec F S2048x384 .bf16) (W : Vec F S8x384x1024 .bf16) (Y : Vec F S2048x1024 .f32)
    (BE : Vec F S8x1024 .f32) (BG : Vec F S1x1024 .f32) (b : ℕ) : Vec F S1x64x1024 .f32 :=
  k0_pay25 (wordAt G ![b, 2]) (wordAt G ![b, 3]) (rowsAt X ![64 * b, 0])
    (slabAt W ![(Scalar.fptosi (F := F) (φ := .f32) 32 (wordAt G ![b, 0])).toNat, 0, 0])
    (slabAt W ![(Scalar.fptosi (F := F) (φ := .f32) 32 (wordAt G ![b, 1])).toNat, 0, 0])
    (yrowsAt Y ![64 * b, 0]) BG
    (browAt BE ![(Scalar.fptosi (F := F) (φ := .f32) 32 (wordAt G ![b, 0])).toNat, 0])
    (browAt BE ![(Scalar.fptosi (F := F) (φ := .f32) 32 (wordAt G ![b, 1])).toNat, 0])

/-- The block of eight samples one point of the second half writes. -/
def mixed (i : grid0.Coords) (G : Vec F S32x4 .f32) (X : Vec F S2048x384 .bf16) (W : Vec F S8x384x1024 .bf16) (Y : Vec F S2048x1024 .f32)
    (BE : Vec F S8x1024 .f32) (BG : Vec F S1x1024 .f32) : Vec F S8x64x1024 .f32 :=
  fun y => sampleOut G X W Y BE BG (8 * ((i 0).val - 4) + (y 0).val) (ix3 0 (y 1) (y 2))

/-- One sample's store, at an index. -/
theorem put_sample (x : Vec F S8x64x1024 .f32) (k : ℕ) (w : Vec F S1x64x1024 .f32) (y : S8x64x1024.Idx) :
    VecWindow.put x ![k, 0, 0] S1x64x1024.size w y = if (y 0).val = k then w (ix3 0 (y 1) (y 2)) else x y := by
  unfold VecWindow.put
  have y1 : (y 1).val < 64 := (y 1).isLt
  have y2 : (y 2).val < 1024 := (y 2).isLt
  by_cases hk : (y 0).val = k
  · rw [if_pos hk, dif_pos (by intro a; fin_cases a <;> simp <;> omega)]
    refine congrArg w (funext fun a => Fin.ext ?_)
    fin_cases a
    · show (y 0).val - k = 0; omega
    · rfl
    · rfl
  · rw [if_neg hk, dif_neg (fun h => hk (by have := h 0; simp at this; omega))]

/-- Eight stores, one a sample, read back sample by sample. -/
theorem read_samples (m : Memref sig .tc .vmem S8x64x1024 .f32) (f : m.view.ty.Contents (Elt F)) (T : ℕ → Vec F S1x64x1024 .f32)
    {w0 w1 w2 w3 w4 w5 w6 w7 : Vec F S1x64x1024 .f32} (e0 : w0 = T 0) (e1 : w1 = T 1) (e2 : w2 = T 2) (e3 : w3 = T 3)
    (e4 : w4 = T 4) (e5 : w5 = T 5) (e6 : w6 = T 6) (e7 : w7 = T 7) :
    m.view.read (Elt F) (m.view.writes (Elt F) f
      [⟨Rect.unit ![7, 0, 0] S1x64x1024.size inb_S8x64x1024_S1x64x1024_7_0_0, w7⟩, ⟨Rect.unit ![6, 0, 0] S1x64x1024.size inb_S8x64x1024_S1x64x1024_6_0_0, w6⟩,
       ⟨Rect.unit ![5, 0, 0] S1x64x1024.size inb_S8x64x1024_S1x64x1024_5_0_0, w5⟩, ⟨Rect.unit ![4, 0, 0] S1x64x1024.size inb_S8x64x1024_S1x64x1024_4_0_0, w4⟩,
       ⟨Rect.unit ![3, 0, 0] S1x64x1024.size inb_S8x64x1024_S1x64x1024_3_0_0, w3⟩, ⟨Rect.unit ![2, 0, 0] S1x64x1024.size inb_S8x64x1024_S1x64x1024_2_0_0, w2⟩,
       ⟨Rect.unit ![1, 0, 0] S1x64x1024.size inb_S8x64x1024_S1x64x1024_1_0_0, w1⟩, ⟨Rect.unit ![0, 0, 0] S1x64x1024.size inb_S8x64x1024_S1x64x1024_0_0_0, w0⟩])
      = fun y : S8x64x1024.Idx => T (y 0).val (ix3 0 (y 1) (y 2)) := by
  subst e0 e1 e2 e3 e4 e5 e6 e7
  funext y
  repeat rw [View.read_writes_cons_put _ _ _ _ _ rfl]
  repeat rw [put_sample]
  have y0 : (y 0).val < 8 := (y 0).isLt
  split_ifs with q7 q6 q5 q4 q3 q2 q1 q0
  · rw [q7]
  · rw [q6]
  · rw [q5]
  · rw [q4]
  · rw [q3]
  · rw [q2]
  · rw [q1]
  · rw [q0]
  · omega

section Runs

variable (c : Dev nD) (i : grid0.Coords)
  (arg1 : Memref sig .tc .vmem S32x1024 .f32) (harg1 : arg1.IsWhole) (arg2 : Memref sig .tc .vmem S32x1 .f32) (harg2 : arg2.IsWhole)
  (arg3 : Memref sig .tc .vmem S1024x2048 .f32) (harg3 : arg3.IsWhole) (arg4 : Memref sig .tc .vmem S8x2048 .f32) (harg4 : arg4.IsWhole)
  (arg5 : Memref sig .tc .vmem S1x2048 .f32) (harg5 : arg5.IsWhole) (arg6 : Memref sig .tc .vmem S2048x8 .f32) (harg6 : arg6.IsWhole)
  (arg7 : Memref sig .tc .vmem S1x8 .f32) (harg7 : arg7.IsWhole) (arg8 : Memref sig .tc .vmem S8x64x3x128 .f32) (harg8 : arg8.IsWhole)
  (arg9 : Memref sig .tc .vmem S2x384x1024 .f32) (harg9 : arg9.IsWhole) (arg10 : Memref sig .tc .vmem S384x1024 .f32) (harg10 : arg10.IsWhole)
  (arg11 : Memref sig .tc .vmem S8x1024 .f32) (harg11 : arg11.IsWhole) (arg12 : Memref sig .tc .vmem S1x1024 .f32) (harg12 : arg12.IsWhole)
  (arg13 : Memref sig .tc .vmem S8x64x1024 .f32) (harg13 : arg13.IsWhole)

local notation "kern" => cc0__fused_kernel (F := F) i arg1 harg1 arg2 harg2 arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7

set_option maxHeartbeats 4000000 in
/-- A later point of the second half. -/
theorem run_mix (h0 : ¬ atPoint i 0#32) (h2 : ¬ k0_cond2 i = 1#1) (h3 : ¬ inFirstHalf i) (h5 : afterFirst i) (h6 : ¬ atPoint i 3#32)
    (h7 : ¬ atPoint i 4#32) (h8 : k0_cond8 i = 1#1)
    (X11 : Vec F S8x1024 .f32) (X12 : Vec F S1x1024 .f32) (O : Vec F S8x64x1024 .f32)
    (B : Vec F S8x384x1024 .bf16) (C : Vec F S2048x384 .bf16) (D : Vec F S2048x1024 .f32) (G : Vec F S32x4 .f32)
    (hG : ∀ y : S32x4.Idx, (y 1).val < 2 → (Scalar.fptosi (F := F) (φ := .f32) 32 (G y)).toNat < 8)
    (K : PUnit → sProp 𝕄) :
    iprop(hold c arg11 X11 ∗ hold c arg12 X12 ∗ hold c arg13 O ∗ hold c sWe B ∗ hold c sX C ∗ hold c sY D ∗ hold c sWords G
      ∗ ((hold c arg11 X11 ∗ hold c arg12 X12 ∗ hold c arg13 (mixed i G C B D X11 X12) ∗ hold c sWe B ∗ hold c sX C ∗ hold c sY D ∗ hold c sWords G) -∗ K ⟨⟩))
    ⊢ wp frame (wpE (defs₀ (F := F)) Variants.none (c : Thread nD τ) none) Set.univ kern K := by
  simp only [cc0__fused_kernel_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold cc0__fused_kernel_skel
  unfold hold owns
  iintro ⟨⟨%f11, %e11, H11⟩, ⟨%f12, %e12, H12⟩, ⟨%f13, %e13, H13⟩, ⟨%fB, %eB, HB⟩, ⟨%fC, %eC, HC⟩, ⟨%fD, %eD, HD⟩, ⟨%fG, %eG, HG⟩, Hk⟩
  subst e11 e12 e13 eB eC eD eG
  sl_exec (disch := (refine check_of_lt _ _ ?_; sl_open_run; exact word_lt _ hG _ _ _ (by first | exact (show 0 < 2 by decide) | exact (show 1 < 2 by decide))))
  sl_step
  iapply Hk
  isplitl [H11]; · iapply (hold_of c arg11 rfl); iexact H11
  isplitl [H12]; · iapply (hold_of c arg12 rfl); iexact H12
  isplitl [H13]
  · iapply (hold_of c arg13 ?_); swap; · iexact H13
    obtain ⟨o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47⟩ := sample_offsets i h8
    refine read_samples arg13 f13 (fun s => sampleOut _ _ _ _ _ _ (8 * ((i 0).val - 4) + s)) ?_ ?_ ?_ ?_ ?_ ?_ ?_ ?_
    all_goals
      sl_open_run
      rw [View.readAt_full]
      repeat rw [load_rows]
      repeat rw [load_yrows]
      repeat rw [load_slab]
      repeat rw [load_brow]
      repeat rw [load_word]
      simp only [o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47]
      rfl
  isplitl [HB]; · iapply (hold_of c sWe rfl); iexact HB
  isplitl [HC]; · iapply (hold_of c sX rfl); iexact HC
  isplitl [HD]; · iapply (hold_of c sY rfl); iexact HD
  · iapply (hold_of c sWords rfl); iexact HG

set_option maxHeartbeats 4000000 in
/-- The first point of the second half: it waits for the packed words, then mixes its samples as a later point does. -/
theorem run_wait (h0 : ¬ atPoint i 0#32) (h2 : ¬ k0_cond2 i = 1#1) (h3 : ¬ inFirstHalf i) (h5 : afterFirst i) (h6 : ¬ atPoint i 3#32)
    (h7 : atPoint i 4#32) (h8 : k0_cond8 i = 1#1)
    (X11 : Vec F S8x1024 .f32) (X12 : Vec F S1x1024 .f32) (O : Vec F S8x64x1024 .f32)
    (B : Vec F S8x384x1024 .bf16) (C : Vec F S2048x384 .bf16) (D : Vec F S2048x1024 .f32) (G : Vec F S32x4 .f32)
    (hG : ∀ y : S32x4.Idx, (y 1).val < 2 → (Scalar.fptosi (F := F) (φ := .f32) 32 (G y)).toNat < 8)
    (W : Waits sig Unit) (K : PUnit → sProp 𝕄) :
    iprop(hold c arg11 X11 ∗ hold c arg12 X12 ∗ hold c arg13 O ∗ hold c sWe B ∗ hold c sX C ∗ hold c sY D ∗ flying c G ∗ owes (c : Thread nD τ) 0 W
      ∗ ((hold c arg11 X11 ∗ hold c arg12 X12 ∗ hold c arg13 (mixed i G C B D X11 X12) ∗ hold c sWe B ∗ hold c sX C ∗ hold c sY D ∗ hold c sWords G
        ∗ hold c sPack G ∗ semVal ((c : Thread nD τ), SemLoc.dma 18) 0 ∗ owes (c : Thread nD τ) 0 (insert (SemLoc.dma 18, ()) W)) -∗ K ⟨⟩))
    ⊢ wp frame (wpE (defs₀ (F := F)) Variants.none (c : Thread nD τ) none) Set.univ kern K := by
  simp only [cc0__fused_kernel_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold cc0__fused_kernel_skel
  unfold hold owns flying
  iintro ⟨⟨%f11, %e11, H11⟩, ⟨%f12, %e12, H12⟩, ⟨%f13, %e13, H13⟩, ⟨%fB, %eB, HB⟩, ⟨%fC, %eC, HC⟩, ⟨%fD, %eD, HD⟩, ⟨%fG, %fS, %eG, %eS, HG⟩, HO, Hk⟩
  subst e11 e12 e13 eB eC eD eG
  sl_exec (disch := (refine check_of_lt _ _ ?_; sl_open_run; exact word_lt _ hG _ _ _ (by first | exact (show 0 < 2 by decide) | exact (show 1 < 2 by decide))))
  sl_step
  iapply Hk
  isplitl [H11]; · iapply (hold_of c arg11 rfl); iexact H11
  isplitl [H12]; · iapply (hold_of c arg12 rfl); iexact H12
  isplitl [H13]
  · iapply (hold_of c arg13 ?_); swap; · iexact H13
    obtain ⟨o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47⟩ := sample_offsets i h8
    refine read_samples arg13 f13 (fun s => sampleOut _ _ _ _ _ _ (8 * ((i 0).val - 4) + s)) ?_ ?_ ?_ ?_ ?_ ?_ ?_ ?_
    all_goals
      sl_open_run
      rw [View.readAt_full]
      repeat rw [load_rows]
      repeat rw [load_yrows]
      repeat rw [load_slab]
      repeat rw [load_brow]
      repeat rw [load_word]
      simp only [o0, o1, o2, o3, o4, o5, o6, o7, o8, o9, o10, o11, o12, o13, o14, o15, o16, o17, o18, o19, o20, o21, o22, o23, o24, o25, o26, o27, o28, o29, o30, o31, o32, o33, o34, o35, o36, o37, o38, o39, o40, o41, o42, o43, o44, o45, o46, o47]
      rfl
  isplitl [HB]; · iapply (hold_of c sWe rfl); iexact HB
  isplitl [HC]; · iapply (hold_of c sX rfl); iexact HC
  isplitl [HD]; · iapply (hold_of c sY rfl); iexact HD
  isplitl [HG_dst]; · iapply (hold_of c sWords rfl); iexact HG_dst
  isplitl [HG_src]; · iapply (hold_of c sPack eS); iexact HG_src
  isplitl [HG]; · iexact HG
  iexact HO

end Runs

end Cert.KernelIdeal.Hand

end
-- ==== Proof.Contents.lean ====
/-
  What the kernel's buffers hold along its grid, as functions of the arrays it was launched on: the window blocks, the
  scratch arrays the first half of the grid fills, the packed routing words, and the blocks of the result.
-/
module

public import proofs.«01_k».proof.Proof.Gen.KernelIdeal.Frame
public import proofs.«01_k».proof.Proof.Experts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-- Grid point `n` (modulo the grid's eight points). -/
def pt (n : ℕ) : Fin cfg0.N := ⟨n % 8, lt_of_lt_of_eq (Nat.mod_lt _ (by decide)) N_0.symm⟩

theorem pt_val (t : Fin cfg0.N) : pt t.val = t := by
  apply Fin.ext
  exact Nat.mod_eq_of_lt (lt_of_lt_of_eq t.isLt N_0)

/-! ## The windows' blocks -/

def w0 (t : Fin cfg0.N) : Vec F S32x1024 .f32 := iblk m c 0 t
def w1 (t : Fin cfg0.N) : Vec F S32x1 .f32 := iblk m c 1 t
def w2 (t : Fin cfg0.N) : Vec F S1024x2048 .f32 := X0_2 m c t
/-- A default for the rows of the tail block that lie beyond the array, which nothing reads. -/
def dflt3 : (cfg0.win 3).block.Idx → Elt F (cfg0.win 3).elt := fun _ => Classical.choice inferInstance
def w3 (t : Fin cfg0.N) : Vec F S8x2048 .f32 := (cfg0.win 3).fill (cfg0.grid.coords t) dflt3 (iblk m c 3 t)
def w4 (t : Fin cfg0.N) : Vec F S1x2048 .f32 := iblk m c 4 t
def w5 (t : Fin cfg0.N) : Vec F S2048x8 .f32 := iblk m c 5 t
def w6 (t : Fin cfg0.N) : Vec F S1x8 .f32 := iblk m c 6 t
def w7 (t : Fin cfg0.N) : Vec F S8x64x3x128 .f32 := iblk m c 7 t
def w8 (t : Fin cfg0.N) : Vec F S2x384x1024 .f32 := iblk m c 8 t
def w9 (t : Fin cfg0.N) : Vec F S384x1024 .f32 := iblk m c 9 t
def w10 (t : Fin cfg0.N) : Vec F S8x1024 .f32 := iblk m c 10 t
def w11 (t : Fin cfg0.N) : Vec F S1x1024 .f32 := iblk m c 11 t

/-! ## What the first half of the grid fills -/

/-- The accumulated product after `n + 1` points. -/
def accAt : ℕ → Vec F S32x2048 .f32
  | 0 => k0_pay7 (w0 m c (pt 0)) (w2 m c (pt 0))
  | n + 1 => k0_pay8 (w0 m c (pt (n + 1))) (w2 m c (pt (n + 1))) (accAt n)

/-- The general expert's weights. -/
def wgAll : Vec F S384x1024 .bf16 := k0_pay1 (w9 m c (pt 0))

/-- The data of all samples. -/
def xAll : Vec F S2048x384 .bf16 := fun y =>
  k0_pay4 (w7 m c (pt ((y 0).val / 512))) (ix2 ⟨(y 0).val % 512, Nat.mod_lt _ (by decide)⟩ (y 1))

/-- The general expert's product on all samples. -/
def yAll : Vec F S2048x1024 .f32 := fun y =>
  k0_pay5 (w7 m c (pt ((y 0).val / 512))) (wgAll m c) (ix2 ⟨(y 0).val % 512, Nat.mod_lt _ (by decide)⟩ (y 1))

/-- All experts' weights. -/
def weAll : Vec F S8x384x1024 .bf16 := fun y =>
  k0_pay2 (w8 m c (pt ((y 0).val / 2))) (ix3 ⟨(y 0).val % 2, Nat.mod_lt _ (by decide)⟩ (y 1) (y 2))

/-- The packed routing words. -/
def packAll : Vec F S32x4 .f32 :=
  packOf (w1 m c (pt 3)) (firstRow (w3 m c (pt 3))) (accAt m c 3) (w4 m c (pt 3)) (w5 m c (pt 3)) (w6 m c (pt 3))

/-- The block of the result that point `t` leaves. -/
def outAt (t : Fin cfg0.N) : Vec F S8x64x1024 .f32 :=
  mixed (grid0.coords t) (packAll m c) (xAll m c) (weAll m c) (yAll m c) (w10 m c t) (w11 m c t)

/-- The scratch arrays hold what `n` points of the first half have filled. -/
structure Filled (n : ℕ) (A : Vec F S32x2048 .f32) (B : Vec F S8x384x1024 .bf16) (Wg : Vec F S384x1024 .bf16)
    (C : Vec F S2048x384 .bf16) (D : Vec F S2048x1024 .f32) : Prop where
  acc : ∀ k, n = k + 1 → A = accAt m c k
  wg : 0 < n → Wg = wgAll m c
  we : ∀ y : S8x384x1024.Idx, (y 0).val < 2 * n → B y = weAll m c y
  x : ∀ y : S2048x384.Idx, (y 0).val < 512 * n → C y = xAll m c y
  y : ∀ y : S2048x1024.Idx, (y 0).val < 512 * n → D y = yAll m c y

/-- A block of rows put over an array that agrees with `T` on the rows before it: the two then agree through the block. -/
theorem put_rows {s : Shape} {α : Type} (a₀ : Fin s.rank) (T X : s.Idx → α) (off size : Fin s.rank → ℕ) (w : ((a : Fin s.rank) → Fin (size a)) → α)
    (n : ℕ) (h0 : off a₀ = size a₀ * n) (hoff : ∀ a, a ≠ a₀ → off a = 0) (hsize : ∀ a, a ≠ a₀ → size a = s.size a)
    (hX : ∀ y : s.Idx, (y a₀).val < size a₀ * n → X y = T y)
    (hw : ∀ (y : s.Idx) (z : (a : Fin s.rank) → Fin (size a)), (y a₀).val = size a₀ * n + (z a₀).val → (∀ a, a ≠ a₀ → (z a).val = (y a).val) → w z = T y) :
    ∀ y : s.Idx, (y a₀).val < size a₀ * (n + 1) → VecWindow.put X off size w y = T y := by
  intro y hy
  unfold VecWindow.put
  split_ifs with h
  · refine hw y _ ?_ fun a ha => ?_
    · show (y a₀).val = size a₀ * n + ((y a₀).val - off a₀)
      have := h a₀; omega
    · show (y a).val - off a = (y a).val
      rw [hoff a ha]; omega
  · apply hX
    by_contra hn
    apply h
    intro a
    by_cases ha : a = a₀
    · subst ha; rw [h0]; rw [Nat.mul_succ] at hy; omega
    · rw [hoff a ha, hsize a ha]; have := (y a).isLt; omega

theorem first_filled (A : Vec F S32x2048 .f32) (B : Vec F S8x384x1024 .bf16) (Wg : Vec F S384x1024 .bf16)
    (C : Vec F S2048x384 .bf16) (D : Vec F S2048x1024 .f32) : Filled m c 0 A B Wg C D where
  acc k h := absurd h (by omega)
  wg h := absurd h (by omega)
  we y h := absurd h (by omega)
  x y h := absurd h (by omega)
  y y h := absurd h (by omega)

theorem off1_at : ∀ t : Fin cfg0.N, k0_cond2 (grid0.coords t) = 1#1 → k0_off1 (grid0.coords t) = ![2 * t.val, 0, 0] := by decide +kernel
theorem off2_at : ∀ t : Fin cfg0.N, k0_cond2 (grid0.coords t) = 1#1 → k0_off2 (grid0.coords t) = ![512 * t.val, 0] := by decide +kernel
theorem off3_at : ∀ t : Fin cfg0.N, k0_cond2 (grid0.coords t) = 1#1 → k0_off3 (grid0.coords t) = ![512 * t.val, 0] := by decide +kernel

/-- One more point of the first half fills its block of every array. -/
theorem Filled.step {t : Fin cfg0.N} (h2 : k0_cond2 (grid0.coords t) = 1#1) {A B Wg C D} (h : Filled m c t.val A B Wg C D)
    {A' : Vec F S32x2048 .f32} (hA : A' = accAt m c t.val) {Wg' : Vec F S384x1024 .bf16} (hW : Wg' = wgAll m c) :
    Filled m c (t.val + 1) A' (VecWindow.put B (k0_off1 (grid0.coords t)) S2x384x1024.size (k0_pay2 (w8 m c t))) Wg'
      (VecWindow.put C (k0_off2 (grid0.coords t)) S512x384.size (k0_pay4 (w7 m c t)))
      (VecWindow.put D (k0_off3 (grid0.coords t)) S512x1024.size (k0_pay5 (w7 m c t) (wgAll m c))) where
  acc k e := by obtain rfl : k = t.val := by omega
                exact hA
  wg _ := hW
  we := by
    rw [off1_at t h2]
    refine put_rows (s := S8x384x1024) 0 (weAll m c) B ![2 * t.val, 0, 0] S2x384x1024.size _ t.val rfl (fun a ha => by fin_cases a <;> first | rfl | exact absurd rfl ha) (by decide) h.we fun y z h0 hz => ?_
    have hz0 : (z 0).val < 2 := (z 0).isLt
    have h0 : (y 0).val = 2 * t.val + (z 0).val := h0
    unfold weAll
    rw [show (y 0).val / 2 = t.val by omega, pt_val]
    refine congrArg _ (funext fun a => Fin.ext ?_)
    match a with
    | 0 => show (z 0).val = (y 0).val % 2; omega
    | 1 => exact hz 1 (by decide)
    | 2 => exact hz 2 (by decide)
  x := by
    rw [off2_at t h2]
    refine put_rows (s := S2048x384) 0 (xAll m c) C ![512 * t.val, 0] S512x384.size _ t.val rfl (fun a ha => by fin_cases a <;> first | rfl | exact absurd rfl ha) (by decide) h.x fun y z h0 hz => ?_
    have hz0 : (z 0).val < 512 := (z 0).isLt
    have h0 : (y 0).val = 512 * t.val + (z 0).val := h0
    unfold xAll
    rw [show (y 0).val / 512 = t.val by omega, pt_val]
    refine congrArg _ (funext fun a => Fin.ext ?_)
    match a with
    | 0 => show (z 0).val = (y 0).val % 512; omega
    | 1 => exact hz 1 (by decide)
  y := by
    rw [off3_at t h2]
    refine put_rows (s := S2048x1024) 0 (yAll m c) D ![512 * t.val, 0] S512x1024.size _ t.val rfl (fun a ha => by fin_cases a <;> first | rfl | exact absurd rfl ha) (by decide) h.y fun y z h0 hz => ?_
    have hz0 : (z 0).val < 512 := (z 0).isLt
    have h0 : (y 0).val = 512 * t.val + (z 0).val := h0
    unfold yAll
    rw [show (y 0).val / 512 = t.val by omega, pt_val]
    refine congrArg _ (funext fun a => Fin.ext ?_)
    match a with
    | 0 => show (z 0).val = (y 0).val % 512; omega
    | 1 => exact hz 1 (by decide)

/-- After the first half every array is filled. -/
theorem Filled.all {A B Wg C D} (h : Filled m c 4 A B Wg C D) : B = weAll m c ∧ C = xAll m c ∧ D = yAll m c :=
  ⟨funext fun y => h.we y (y 0).isLt, funext fun y => h.x y (y 0).isLt, funext fun y => h.y y (y 0).isLt⟩

/-- The tail block's first row lies in the array, so a fetch fills it whatever the buffer held. -/
theorem row3_moved : ∀ (t : Fin cfg0.N) (a : Fin (cfg0.win 3).block.rank), (if a.val = 0 then 1 else 2048) ≤ (cfg0.win 3).xsize (cfg0.grid.coords t) a := by
  decide +kernel

theorem firstRow_fill (t : Fin cfg0.N) (d : Vec F S8x2048 .f32) :
    firstRow ((cfg0.win 3).fill (cfg0.grid.coords t) d (iblk m c 3 t)) = firstRow (w3 m c t) := by
  unfold firstRow w3 VecWindow.window
  funext y
  have hm : (cfg0.win 3).moved (cfg0.grid.coords t) ((Rect.unit (s := S8x2048) ![0, 0] S1x2048.size inb_S8x2048_S1x2048_0_0).emb y) = true := by
    refine ((cfg0.win 3).moved_iff _ _).mpr fun a => ?_
    refine lt_of_lt_of_le ?_ (row3_moved t a)
    match a with
    | ⟨0, _⟩ => show 0 + 1 * (y 0).val < 1; have : (y 0).val < 1 := (y 0).isLt; omega
    | ⟨1, _⟩ => show 0 + 1 * (y 1).val < 2048; have : (y 1).val < 2048 := (y 1).isLt; omega
  unfold Pipeline.Window.fill
  rw [dif_pos hm, dif_pos hm]

end Cert.KernelIdeal.Hand

end
-- ==== Proof.Run.lean ====
/-
  The kernel's launch: what holds between grid points, each point's body against it, and the whole run.
-/
module

public import proofs.«01_k».proof.Proof.Contents

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## Between the points -/

/-- The core's random-number register, at whatever it holds. -/
def prng : sProp 𝕄 := iprop(∃ r, prngReg c r)

/-- Before point `n` of the first half, or after its last but before the copy: `n` points' blocks are filled. -/
def filling (n : ℕ) : sProp 𝕄 :=
  iprop(∃ A B Wg C D E G, ⌜Filled m c n A B Wg C D⌝ ∗ hold c sAcc A ∗ hold c sWe B ∗ hold c sWg Wg ∗ hold c sX C ∗ hold c sY D
    ∗ hold c sPack E ∗ hold c sWords G ∗ semVal ((c : Thread nD τ), SemLoc.dma 18) 0 ∗ prng c)

/-- Between the halves: the packed words are on their way to scalar memory. -/
def copying : sProp 𝕄 :=
  iprop(∃ A Wg, hold c sAcc A ∗ hold c sWe (weAll m c) ∗ hold c sWg Wg ∗ hold c sX (xAll m c) ∗ hold c sY (yAll m c)
    ∗ flying c (packAll m c) ∗ prng c)

/-- In the second half, once the words have arrived. -/
def mixing : sProp 𝕄 :=
  iprop(∃ A Wg E, hold c sAcc A ∗ hold c sWe (weAll m c) ∗ hold c sWg Wg ∗ hold c sX (xAll m c) ∗ hold c sY (yAll m c)
    ∗ hold c sPack E ∗ hold c sWords (packAll m c) ∗ semVal ((c : Thread nD τ), SemLoc.dma 18) 0 ∗ prng c)

/-- What holds before point `n`. -/
def phase (n : ℕ) : sProp 𝕄 := if n < 4 then filling m c n else if n = 4 then copying m c else mixing m c

/-- The core owes nothing. -/
def noDebt : sProp 𝕄 := iprop(∃ W, owes (c : Thread nD τ) 0 W)

/-- The input windows' buffers at point `t`, each at its block, and `O` of the result's. -/
def bufs (t : Fin cfg0.N) (O : sProp 𝕄) : sProp 𝕄 :=
  iprop(hold c (st0_0 t) (w0 m c t) ∗ hold c (st0_1 t) (w1 m c t) ∗ hold c (st0_2 t) (w2 m c t)
    ∗ (∃ d, hold c (st0_3 t) ((cfg0.win 3).fill (cfg0.grid.coords t) d (iblk m c 3 t)))
    ∗ hold c (st0_4 t) (w4 m c t) ∗ hold c (st0_5 t) (w5 m c t) ∗ hold c (st0_6 t) (w6 m c t) ∗ hold c (st0_7 t) (w7 m c t)
    ∗ hold c (st0_8 t) (w8 m c t) ∗ hold c (st0_9 t) (w9 m c t) ∗ hold c (st0_10 t) (w10 m c t) ∗ hold c (st0_11 t) (w11 m c t) ∗ O)

/-! ## Which branches each point takes -/

theorem conds_first : ∀ t : Fin cfg0.N, t.val = 0 → atPoint (grid0.coords t) 0#32 ∧ k0_cond2 (grid0.coords t) = 1#1 ∧ inFirstHalf (grid0.coords t)
    ∧ ¬ afterFirst (grid0.coords t) ∧ ¬ atPoint (grid0.coords t) 3#32 ∧ ¬ atPoint (grid0.coords t) 4#32 ∧ ¬ k0_cond8 (grid0.coords t) = 1#1 := by
  decide +kernel
theorem conds_middle : ∀ t : Fin cfg0.N, 0 < t.val → t.val < 3 → ¬ atPoint (grid0.coords t) 0#32 ∧ k0_cond2 (grid0.coords t) = 1#1 ∧ inFirstHalf (grid0.coords t)
    ∧ afterFirst (grid0.coords t) ∧ ¬ atPoint (grid0.coords t) 3#32 ∧ ¬ atPoint (grid0.coords t) 4#32 ∧ ¬ k0_cond8 (grid0.coords t) = 1#1 := by
  decide +kernel
theorem conds_route : ∀ t : Fin cfg0.N, t.val = 3 → ¬ atPoint (grid0.coords t) 0#32 ∧ k0_cond2 (grid0.coords t) = 1#1 ∧ inFirstHalf (grid0.coords t)
    ∧ afterFirst (grid0.coords t) ∧ atPoint (grid0.coords t) 3#32 ∧ ¬ atPoint (grid0.coords t) 4#32 ∧ ¬ k0_cond8 (grid0.coords t) = 1#1 := by
  decide +kernel
theorem conds_wait : ∀ t : Fin cfg0.N, t.val = 4 → ¬ atPoint (grid0.coords t) 0#32 ∧ ¬ k0_cond2 (grid0.coords t) = 1#1 ∧ ¬ inFirstHalf (grid0.coords t)
    ∧ afterFirst (grid0.coords t) ∧ ¬ atPoint (grid0.coords t) 3#32 ∧ atPoint (grid0.coords t) 4#32 ∧ k0_cond8 (grid0.coords t) = 1#1 := by
  decide +kernel
theorem conds_mix : ∀ t : Fin cfg0.N, 4 < t.val → ¬ atPoint (grid0.coords t) 0#32 ∧ ¬ k0_cond2 (grid0.coords t) = 1#1 ∧ ¬ inFirstHalf (grid0.coords t)
    ∧ afterFirst (grid0.coords t) ∧ ¬ atPoint (grid0.coords t) 3#32 ∧ ¬ atPoint (grid0.coords t) 4#32 ∧ k0_cond8 (grid0.coords t) = 1#1 := by
  decide +kernel

/-- The packed words name experts: read as integers they are below eight. -/
def Routed : Prop := ∀ y : S32x4.Idx, (y 1).val < 2 → (Scalar.fptosi (F := F) (φ := .f32) 32 (packAll m c y)).toNat < 8

/-! ## The body at each kind of point -/

/-- The first point. -/
theorem sound_first (t : Fin cfg0.N) (ht : t.val = 0) (O : sProp 𝕄) :
    iprop(filling m c t.val ∗ noDebt c ∗ bufs m c t O)
      ⊢ wp frame (wpE (defs₀ (F := F)) Variants.none (c : Thread nD τ) none) Set.univ (bodyAt0 t) fun _ => iprop(filling m c (t.val + 1) ∗ noDebt c ∗ bufs m c t O) := by
  obtain ⟨k0, k2, k3, k5, k6, k7, k8⟩ := conds_first t ht
  unfold filling noDebt bufs
  iintro ⟨⟨%A, %B, %Wg, %C, %D, %E, %G, %hF, HA, HB, HWg, HC, HD, HE, HG, HS, Hr⟩, ⟨%W, HW⟩, H0, H1, H2, ⟨%d3, H3⟩, H4, H5, H6, H7, H8, H9, H10, H11, HO⟩
  iapply (run_first c (grid0.coords t) _ _ _ _ _ _ _ _ _ _ _ _ _ _ _ _ _ _ _ _ _ _ _ _ _ _ k0 k2 k3 k5 k6 k7 k8 (w0 m c t) (w2 m c t) (w7 m c t) (w8 m c t) (w9 m c t) A B Wg C D _)
  isplitl [H0]; · iexact H0
  isplitl [H2]; · iexact H2
  isplitl [H7]; · iexact H7
  isplitl [H8]; · iexact H8
  isplitl [H9]; · iexact H9
  isplitl [HA]; · iexact HA
  isplitl [HB]; · iexact HB
  isplitl [HWg]; · iexact HWg
  isplitl [HC]; · iexact HC
  isplitl [HD]; · iexact HD
  iintro ⟨H0, H2, H7, H8, H9, HA, HB, HWg, HC, HD⟩
  have hp : pt 0 = t := by rw [← ht, pt_val]
  have hF' := hF.step (t := t) m c k2 (A' := k0_pay7 (w0 m c t) (w2 m c t)) (by rw [ht]; unfold accAt; rw [hp]) (Wg' := k0_pay1 (w9 m c t))
    (by unfold wgAll; rw [hp])
  rw [show wgAll m c = k0_pay1 (w9 m c t) by unfold wgAll; rw [hp]] at hF'
  isplitl [HA HB HWg HC HD HE HG HS Hr]
  · iexists _, _, _, _, _, _, _
    isplitr; · ipureintro; exact hF'
    isplitl [HA]; · iexact HA
    isplitl [HB]; · iexact HB
    isplitl [HWg]; · iexact HWg
    isplitl [HC]; · iexact HC
    isplitl [HD]; · iexact HD
    isplitl [HE]; · iexact HE
    isplitl [HG]; · iexact HG
    isplitl [HS]; · iexact HS
    iexact Hr
  isplitl [HW]; · iexists _; iexact HW
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-- A middle point of the first half. -/
theorem sound_middle (t : Fin cfg0.N) (ht : 0 < t.val) (ht3 : t.val < 3) (O : sProp 𝕄) :
    iprop(filling m c t.val ∗ noDebt c ∗ bufs m c t O)
      ⊢ wp frame (wpE (defs₀ (F := F)) Variants.none (c : Thread nD τ) none) Set.univ (bodyAt0 t) fun _ => iprop(filling m c (t.val + 1) ∗ noDebt c ∗ bufs m c t O) := by
  obtain ⟨k0, k2, k3, k5, k6, k7, k8⟩ := conds_middle t ht ht3
  unfold filling noDebt bufs
  iintro ⟨⟨%A, %B, %Wg, %C, %D, %E, %G, %hF, HA, HB, HWg, HC, HD, HE, HG, HS, Hr⟩, ⟨%W, HW⟩, H0, H1, H2, ⟨%d3, H3⟩, H4, H5, H6, H7, H8, H9, H10, H11, HO⟩
  iapply (run_middle c (grid0.coords t) _ _ _ _ _ _ _ _ _ _ _ _ _ _ _ _ _ _ _ _ _ _ _ _ _ _ k0 k2 k3 k5 k6 k7 k8 (w0 m c t) (w2 m c t) (w7 m c t) (w8 m c t) A B Wg C D _)
  isplitl [H0]; · iexact H0
  isplitl [H2]; · iexact H2
  isplitl [H7]; · iexact H7
  isplitl [H8]; · iexact H8
  isplitl [HA]; · iexact HA
  isplitl [HB]; · iexact HB
  isplitl [HWg]; · iexact HWg
  isplitl [HC]; · iexact HC
  isplitl [HD]; · iexact HD
  iintro ⟨H0, H2, H7, H8, HA, HB, HWg, HC, HD⟩
  have hW := hF.wg (by omega)
  obtain ⟨n, hn⟩ : ∃ n, t.val = n + 1 := ⟨t.val - 1, by omega⟩
  have hA' : k0_pay8 (w0 m c t) (w2 m c t) A = accAt m c t.val := by
    rw [hF.acc n hn, show accAt m c t.val = accAt m c (n + 1) by rw [hn],
      show accAt m c (n + 1) = k0_pay8 (w0 m c (pt (n + 1))) (w2 m c (pt (n + 1))) (accAt m c n) from rfl, ← hn, pt_val]
  have hF' := hF.step (t := t) m c k2 hA' hW
  subst hW
  isplitl [HA HB HWg HC HD HE HG HS Hr]
  · iexists _, _, _, _, _, _, _
    isplitr; · ipureintro; exact hF'
    isplitl [HA]; · iexact HA
    isplitl [HB]; · iexact HB
    isplitl [HWg]; · iexact HWg
    isplitl [HC]; · iexact HC
    isplitl [HD]; · iexact HD
    isplitl [HE]; · iexact HE
    isplitl [HG]; · iexact HG
    isplitl [HS]; · iexact HS
    iexact Hr
  isplitl [HW]; · iexists _; iexact HW
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-- The last point of the first half: it leaves the packed words on their way. -/
theorem sound_route (t : Fin cfg0.N) (ht : t.val = 3) (O : sProp 𝕄) :
    iprop(filling m c t.val ∗ noDebt c ∗ bufs m c t O)
      ⊢ wp frame (wpE (defs₀ (F := F)) Variants.none (c : Thread nD τ) none) Set.univ (bodyAt0 t) fun _ => iprop(copying m c ∗ noDebt c ∗ bufs m c t O) := by
  obtain ⟨k0, k2, k3, k5, k6, k7, k8⟩ := conds_route t ht
  unfold filling noDebt bufs
  iintro ⟨⟨%A, %B, %Wg, %C, %D, %E, %G, %hF, HA, HB, HWg, HC, HD, HE, HG, HS, Hr⟩, ⟨%W, HW⟩, H0, H1, H2, ⟨%d3, H3⟩, H4, H5, H6, H7, H8, H9, H10, H11, HO⟩
  iapply (run_route c (grid0.coords t) _ _ _ _ _ _ _ _ _ _ _ _ _ _ _ _ _ _ _ _ _ _ _ _ _ _ k0 k2 k3 k5 k6 k7 k8 (w0 m c t) (w1 m c t) (w2 m c t) _ (w4 m c t) (w5 m c t) (w6 m c t) (w7 m c t) (w8 m c t) A B Wg C D E G W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HB]; · iexact HB
  isplitl [HWg]; · iexact HWg
  isplitl [HC]; · iexact HC
  isplitl [HD]; · iexact HD
  isplitl [HE]; · iexact HE
  isplitl [HG]; · iexact HG
  isplitl [HS]; · iexact HS
  isplitl [HW]; · iexact HW
  iintro ⟨H0, H1, H2, H3, H4, H5, H6, H7, H8, HA, HB, HWg, HC, HD, HS, HW⟩
  have hW := hF.wg (by omega)
  obtain ⟨n, hn⟩ : ∃ n, t.val = n + 1 := ⟨t.val - 1, by omega⟩
  have hA' : k0_pay8 (w0 m c t) (w2 m c t) A = accAt m c t.val := by
    rw [hF.acc n hn, show accAt m c t.val = accAt m c (n + 1) by rw [hn],
      show accAt m c (n + 1) = k0_pay8 (w0 m c (pt (n + 1))) (w2 m c (pt (n + 1))) (accAt m c n) from rfl, ← hn, pt_val]
  have hF' := hF.step (t := t) m c k2 hA' hW
  subst hW
  rw [ht] at hF'
  obtain ⟨hB, hC, hD⟩ := hF'.all
  have hp : pt 3 = t := by rw [← ht, pt_val]
  have hP : packOf (w1 m c t) (firstRow ((cfg0.win 3).fill (cfg0.grid.coords t) d3 (iblk m c 3 t))) (k0_pay8 (w0 m c t) (w2 m c t) A) (w4 m c t) (w5 m c t) (w6 m c t) = packAll m c := by
    unfold packAll
    rw [firstRow_fill, hA', ht, hp]
  isplitl [HA HB HWg HC HD HS Hr]
  · unfold copying
    iexists _, _
    isplitl [HA]; · iexact HA
    isplitl [HB]; · rw [← hB]; iexact HB
    isplitl [HWg]; · iexact HWg
    isplitl [HC]; · rw [← hC]; iexact HC
    isplitl [HD]; · rw [← hD]; iexact HD
    isplitl [HS]; · rw [← hP]; iexact HS
    iexact Hr
  isplitl [HW]; · iexists _; iexact HW
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-- The first point of the second half. -/
theorem sound_wait (t : Fin cfg0.N) (ht : t.val = 4) (hG : Routed m c) :
    iprop(copying m c ∗ noDebt c ∗ bufs m c t iprop(∃ o, hold c (st0_12 t) o))
      ⊢ wp frame (wpE (defs₀ (F := F)) Variants.none (c : Thread nD τ) none) Set.univ (bodyAt0 t) fun _ => iprop(mixing m c ∗ noDebt c ∗ bufs m c t (hold c (st0_12 t) (outAt m c t))) := by
  obtain ⟨k0, k2, k3, k5, k6, k7, k8⟩ := conds_wait t ht
  unfold copying noDebt bufs
  iintro ⟨⟨%A, %Wg, HA, HB, HWg, HC, HD, HS, Hr⟩, ⟨%W, HW⟩, H0, H1, H2, ⟨%d3, H3⟩, H4, H5, H6, H7, H8, H9, H10, H11, ⟨%o, HO⟩⟩
  iapply (run_wait c (grid0.coords t) _ _ _ _ _ _ _ _ _ _ _ _ _ _ _ _ _ _ _ _ _ _ _ _ _ _ k0 k2 k3 k5 k6 k7 k8 (w10 m c t) (w11 m c t) o (weAll m c) (xAll m c) (yAll m c) (packAll m c) hG W _)
  isplitl [H10]; · iexact H10
  isplitl [H11]; · iexact H11
  isplitl [HO]; · iexact HO
  isplitl [HB]; · iexact HB
  isplitl [HC]; · iexact HC
  isplitl [HD]; · iexact HD
  isplitl [HS]; · iexact HS
  isplitl [HW]; · iexact HW
  iintro ⟨H10, H11, HO, HB, HC, HD, HG, HE, HS, HW⟩
  isplitl [HA HB HWg HC HD HE HG HS Hr]
  · unfold mixing
    iexists _, _, _
    isplitl [HA]; · iexact HA
    isplitl [HB]; · iexact HB
    isplitl [HWg]; · iexact HWg
    isplitl [HC]; · iexact HC
    isplitl [HD]; · iexact HD
    isplitl [HE]; · iexact HE
    isplitl [HG]; · iexact HG
    isplitl [HS]; · iexact HS
    iexact Hr
  isplitl [HW]; · iexists _; iexact HW
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-- A later point. -/
theorem sound_mix (t : Fin cfg0.N) (ht : 4 < t.val) (hG : Routed m c) :
    iprop(mixing m c ∗ noDebt c ∗ bufs m c t iprop(∃ o, hold c (st0_12 t) o))
      ⊢ wp frame (wpE (defs₀ (F := F)) Variants.none (c : Thread nD τ) none) Set.univ (bodyAt0 t) fun _ => iprop(mixing m c ∗ noDebt c ∗ bufs m c t (hold c (st0_12 t) (outAt m c t))) := by
  obtain ⟨k0, k2, k3, k5, k6, k7, k8⟩ := conds_mix t ht
  unfold mixing noDebt bufs
  iintro ⟨⟨%A, %Wg, %E, HA, HB, HWg, HC, HD, HE, HG, HS, Hr⟩, ⟨%W, HW⟩, H0, H1, H2, ⟨%d3, H3⟩, H4, H5, H6, H7, H8, H9, H10, H11, ⟨%o, HO⟩⟩
  iapply (run_mix c (grid0.coords t) _ _ _ _ _ _ _ _ _ _ _ _ _ _ _ _ _ _ _ _ _ _ _ _ _ _ k0 k2 k3 k5 k6 k7 k8 (w10 m c t) (w11 m c t) o (weAll m c) (xAll m c) (yAll m c) (packAll m c) hG _)
  isplitl [H10]; · iexact H10
  isplitl [H11]; · iexact H11
  isplitl [HO]; · iexact HO
  isplitl [HB]; · iexact HB
  isplitl [HC]; · iexact HC
  isplitl [HD]; · iexact HD
  isplitl [HG]; · iexact HG
  iintro ⟨H10, H11, HO, HB, HC, HD, HG⟩
  isplitl [HA HB HWg HC HD HE HG HS Hr]
  · iexists _, _, _
    isplitl [HA]; · iexact HA
    isplitl [HB]; · iexact HB
    isplitl [HWg]; · iexact HWg
    isplitl [HC]; · iexact HC
    isplitl [HD]; · iexact HD
    isplitl [HE]; · iexact HE
    isplitl [HG]; · iexact HG
    isplitl [HS]; · iexact HS
    iexact Hr
  isplitl [HW]; · iexists _; iexact HW
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-! ## The proof data -/

/-- The proof data of the launch on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => w0 m c t
    | ⟨1, _⟩ => w1 m c t
    | ⟨2, _⟩ => w2 m c t
    | ⟨3, _⟩ => w3 m c t
    | ⟨4, _⟩ => w4 m c t
    | ⟨5, _⟩ => w5 m c t
    | ⟨6, _⟩ => w6 m c t
    | ⟨7, _⟩ => w7 m c t
    | ⟨8, _⟩ => w8 m c t
    | ⟨9, _⟩ => w9 m c t
    | ⟨10, _⟩ => w10 m c t
    | ⟨11, _⟩ => w11 m c t
    | ⟨12, _⟩ => outAt m c t
  Φ t := phase m c t.val
  q w := Pipeline.shareOf spec0 w
  owed _ := 0

theorem A_eq (c : Dev nD) (w : Fin cfg0.W) : (dats m 0 c).A w = V m c (Pipeline.arrRef spec0 w) := by
  dsimp only [dats]

theorem after_out (t : Fin cfg0.N) : (dats m 0 c).after 12 t = outAt m c t := by dsimp only [dats]

theorem after_3 (t : Fin cfg0.N) : (dats m 0 c).after 3 t = w3 m c t := by dsimp only [dats]

/-- An uncut input window's buffer holds its block at every point. -/
theorem before_whole (t : Fin cfg0.N) :
    (∀ d, (dats m 0 c).before 0 t d = w0 m c t) ∧ (∀ d, (dats m 0 c).before 1 t d = w1 m c t) ∧ (∀ d, (dats m 0 c).before 4 t d = w4 m c t)
    ∧ (∀ d, (dats m 0 c).before 5 t d = w5 m c t) ∧ (∀ d, (dats m 0 c).before 6 t d = w6 m c t) ∧ (∀ d, (dats m 0 c).before 7 t d = w7 m c t)
    ∧ (∀ d, (dats m 0 c).before 8 t d = w8 m c t) ∧ (∀ d, (dats m 0 c).before 9 t d = w9 m c t) ∧ (∀ d, (dats m 0 c).before 10 t d = w10 m c t)
    ∧ (∀ d, (dats m 0 c).before 11 t d = w11 m c t) := by
  repeat' apply And.intro
  all_goals
    intro d
    exact ((dats m 0 c).before_in_eq_fetched _ rfl (fun _ => rfl) (fun _ _ _ => rfl) (fun t => rfl) t d).trans rfl

theorem before_2 (t : Fin cfg0.N) (d) : (dats m 0 c).before 2 t d = w2 m c t :=
  ((dats m 0 c).before_in_eq_fetched 2 rfl (fun _ => rfl)
      (fun t t' h => funext fun a => congrArg (fun n => Pipeline.Clip.of n ((cfg0.win 2).size a) (S4097x2048.size a)) (congrFun h a))
      (fun t => by rw [show (dats m 0 c).after 2 t = X0_2 m c t from rfl]; unfold X0_2; rw [Pipeline.Window.cut_fill]; unfold Dat.blockOf iblk; rw [A_eq]) t d).trans
    (by unfold Dat.fetched w2 X0_2; rw [fill0_2 t d dflt0_2]; unfold Dat.blockOf iblk; rw [A_eq])

theorem before_3 (t : Fin cfg0.N) (d) : (dats m 0 c).before 3 t d = (cfg0.win 3).fill (cfg0.grid.coords t) d (iblk m c 3 t) :=
  ((dats m 0 c).before_in_eq_fetched 3 rfl (fun _ => rfl)
      (fun t t' h => funext fun a => congrArg (fun n => Pipeline.Clip.of n ((cfg0.win 3).size a) (S4097x2048.size a)) (congrFun h a))
      (fun t => by rw [after_3]; unfold w3; rw [Pipeline.Window.cut_fill]; unfold Dat.blockOf iblk; rw [A_eq]) t d).trans
    (by unfold Dat.fetched Dat.blockOf iblk; rw [A_eq])

theorem cut_3 (t : Fin cfg0.N) : (cfg0.win 3).cut (cfg0.grid.coords t) ((dats m 0 c).after 3 t) = iblk m c 3 t := by
  rw [after_3]; unfold w3; rw [Pipeline.Window.cut_fill]

theorem defs₀_row (t : Fin cfg0.N) :
    defs₀ (F := F) .tc cfg0.body (cfg0.bodyArgs t (cfg0.slots t)) = bodyAt0 t := by
  unfold defs₀; rw [Defs.onTc_tc]

/-- Every point's body takes what holds before it to what holds after it, the result's buffer as stated. -/
theorem sound_body (hG : Routed m c) (t : Fin cfg0.N) :
    iprop(phase m c t.val ∗ noDebt c ∗ bufs m c t iprop(∃ d, hold c (st0_12 t) ((dats m 0 c).before 12 t d)))
      ⊢ wp frame (wpE (defs₀ (F := F)) Variants.none (c : Thread nD τ) none) Set.univ (bodyAt0 t) fun _ =>
        iprop(phase m c (t.val + 1) ∗ noDebt c
          ∗ bufs m c t (if t.val < 4 then iprop(∃ d, hold c (st0_12 t) ((dats m 0 c).before 12 t d)) else hold c (st0_12 t) (outAt m c t))) := by
  have hany : ∀ (P : sProp 𝕄), iprop(P ∗ noDebt c ∗ bufs m c t iprop(∃ d, hold c (st0_12 t) ((dats m 0 c).before 12 t d)))
      ⊢ iprop(P ∗ noDebt c ∗ bufs m c t iprop(∃ o, hold c (st0_12 t) o)) := by
    intro P
    unfold bufs
    iintro ⟨HP, HW, H0, H1, H2, H3, H4, H5, H6, H7, H8, H9, H10, H11, ⟨%d, H12⟩⟩
    isplitl [HP]; · iexact HP
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  unfold phase
  have hN : t.val < 8 := lt_of_lt_of_eq t.isLt N_0
  by_cases h0 : t.val = 0
  · rw [if_pos (by omega : t.val < 4), if_pos (by omega : t.val + 1 < 4), if_pos (by omega : t.val < 4)]
    exact sound_first m c t h0 _
  by_cases h3 : t.val < 3
  · rw [if_pos (by omega : t.val < 4), if_pos (by omega : t.val + 1 < 4), if_pos (by omega : t.val < 4)]
    exact sound_middle m c t (by omega) h3 _
  by_cases h4 : t.val = 3
  · rw [if_pos (by omega : t.val < 4), if_neg (by omega : ¬ t.val + 1 < 4), if_pos (by omega : t.val + 1 = 4), if_pos (by omega : t.val < 4)]
    exact sound_route m c t h4 _
  by_cases h5 : t.val = 4
  · rw [if_neg (by omega : ¬ t.val < 4), if_pos h5, if_neg (by omega : ¬ t.val + 1 < 4), if_neg (by omega : ¬ t.val + 1 = 4), if_neg (by omega : ¬ t.val < 4)]
    exact (hany _).trans (sound_wait m c t h5 hG)
  · rw [if_neg (by omega : ¬ t.val < 4), if_neg h5, if_neg (by omega : ¬ t.val + 1 < 4), if_neg (by omega : ¬ t.val + 1 = 4), if_neg (by omega : ¬ t.val < 4)]
    exact (hany _).trans (sound_mix m c t (by omega) hG)

theorem idle_out : ∀ t : Fin cfg0.N, cfg0.idle 12 (cfg0.grid.coords t) = decide (t.val < 4) := by decide +kernel
theorem flush_out : ∀ t : Fin cfg0.N, (cfg0.win 12).flush t = decide (4 ≤ t.val) := by decide +kernel

theorem phase_at_start (t : Fin cfg0.N) : (dats m 0 c).Φ t.castSucc = phase m c t.val := rfl
theorem phase_at_end (t : Fin cfg0.N) : (dats m 0 c).Φ t.succ = phase m c (t.val + 1) := rfl

theorem owesAt_in (t : Fin (cfg0.N + 1)) : (dats m 0 c).owesAt () t ⊢ noDebt (F := F) c := by
  unfold Dat.owesAt Pipeline.owesWithin noDebt
  rw [show (dats m 0 c).owed t = 0 from rfl]
  iintro ⟨%W, -, HW⟩
  iexists W; iexact HW

theorem owesAt_out (t : Fin (cfg0.N + 1)) : noDebt (F := F) c ⊢ (dats m 0 c).owesAt () t := by
  unfold Dat.owesAt Pipeline.owesWithin noDebt
  rw [show (dats m 0 c).owed t = 0 from rfl]
  iintro ⟨%W, HW⟩
  iexists W
  isplitr
  · ipureintro; exact fun _ _ => Or.inl trivial
  iexact HW

theorem body_obligation (hG : Routed m c) : Pipeline.BodyObligationLoose (dats (F := F) m 0 c) (defs₀ (F := F)) Variants.none () Set.univ := fun t => by
  rw [bigSep_W0, bigSep_W0, defs₀_row]
  refine triple_restated (sound_body m c hG t) rfl ?_ fun _ => ?_
  · obtain ⟨b0, b1, b4, b5, b6, b7, b8, b9, b10, b11⟩ := before_whole m c t
    unfold bufs
    rw [phase_at_start]
    simp only [b0, b1, b4, b5, b6, b7, b8, b9, b10, b11, before_2, before_3]
    iintro ⟨HP, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
    isplitl [HP]; · iexact HP
    isplitl [HW]; · iapply (owesAt_in m c t.castSucc); iexact HW
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [phase_at_end]
    unfold bufs
    iintro ⟨HP, HW, H0, H1, H2, ⟨%d3, H3⟩, H4, H5, H6, H7, H8, H9, H10, H11, H12⟩
    isplitl [HP]; · iexact HP
    isplitl [HW]; · iapply (owesAt_out m c t.succ); iexact HW
    isplitl [H0]; · iexact H0
    isplitl [H1]; · iexact H1
    isplitl [H2]; · iexists (w2 m c t); rw [show (dats m 0 c).after 2 t = w2 m c t from rfl, (cfg0.win 2).fill_cut]; iexact H2
    isplitl [H3]; · iexists d3; rw [cut_3]; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    by_cases h : t.val < 4
    · rw [if_pos h, idle_out, flush_out, decide_eq_true h, decide_eq_false (by omega : ¬ 4 ≤ t.val)]
      exact .rfl
    · rw [if_neg h, idle_out, decide_eq_false h]
      exact .rfl

/-! ## The run -/

abbrev osem0 : Fin 1 → SemLoc sig := fun j => (![SemLoc.dma 18] : Fin 1 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = semVal ((c : Thread nD τ), SemLoc.dma 18) 0 := by
  rw [Pipeline.ownSems0_eq_of_list c osem0 [0] (by decide) (by decide)]; rfl

theorem PhiD0_eq :
    (Pipeline.ΦD osem0 spec0 ∅ (V m) c : sProp 𝕄)
      = iprop(((∃ d, hold c sAcc d) ∗ (∃ d, hold c sWe d) ∗ (∃ d, hold c sWg d) ∗ (∃ d, hold c sX d) ∗ (∃ d, hold c sY d)
          ∗ (∃ d, hold c sPack d) ∗ (∃ d, hold c sWords d))
        ∗ (∃ r, prngReg c r) ∗ semVal ((c : Thread nD τ), SemLoc.dma 18) 0 ∗ bigSep (∅ : Finset (Ref sig .tc)) fun b => ((c.tc : Thread nD τ).loc b) ↦{fullShare} V m c b) := by
  rw [Pipeline.ΦD_eq, scopedRest0_eq, ownSems00_eq]
  simp only [hold, sAcc, sWe, sWg, sX, sY, sPack, sWords, owns_whole]; try rfl

theorem phase_in : (Pipeline.ΦD osem0 spec0 ∅ (V m) c : sProp 𝕄) ⊢ phase m c 0 := by
  rw [PhiD0_eq]
  unfold phase
  rw [if_pos (by decide)]
  unfold filling prng
  iintro ⟨⟨⟨%A, HA⟩, ⟨%B, HB⟩, ⟨%Wg, HWg⟩, ⟨%C, HC⟩, ⟨%D, HD⟩, ⟨%E, HE⟩, ⟨%G, HG⟩⟩, Hr, HS, -⟩
  iexists A, B, Wg, C, D, E, G
  isplitr; · ipureintro; exact first_filled m c A B Wg C D
  isplitl [HA]; · iexact HA
  isplitl [HB]; · iexact HB
  isplitl [HWg]; · iexact HWg
  isplitl [HC]; · iexact HC
  isplitl [HD]; · iexact HD
  isplitl [HE]; · iexact HE
  isplitl [HG]; · iexact HG
  isplitl [HS]; · iexact HS
  iexact Hr

theorem phase_out : phase m c 8 ⊢ (Pipeline.ΦD osem0 spec0 ∅ (V m) c : sProp 𝕄) := by
  rw [PhiD0_eq]
  unfold phase
  rw [if_neg (by decide), if_neg (by decide)]
  unfold mixing prng
  iintro ⟨%A, %Wg, %E, HA, HB, HWg, HC, HD, HE, HG, HS, Hr⟩
  isplitl [HA HB HWg HC HD HE HG]
  · isplitl [HA]; · iexists _; iexact HA
    isplitl [HB]; · iexists _; iexact HB
    isplitl [HWg]; · iexists _; iexact HWg
    isplitl [HC]; · iexists _; iexact HC
    isplitl [HD]; · iexists _; iexact HD
    isplitl [HE]; · iexists _; iexact HE
    iexists _; iexact HG
  isplitl [Hr]; · iexact Hr
  isplitl [HS]; · iexact HS
  rw [bigSep_empty]
  iempintro

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program runs, and its arrays end as the proof data say, every semaphore at zero. -/
theorem run_main (ρ : Dev nD → PrngReg) (hG : ∀ c, Routed m c) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 ∅ (Finset.empty_subset _) m ρ main
    (hbody := fun c => body_obligation m c (hG c)) (hq := fun _ _ _ => rfl)
    (howed := fun _ _ => rfl) (V := V m) (hmain := hmain m) (hA := A_eq m)
    (hin := phase_in m) (hout := fun c => phase_out m c)

/-- What the run leaves: the arguments as launched, every semaphore at zero, and the result as the proof data say. -/
theorem run (ρ : Dev nD → PrngReg) (hG : ∀ c, Routed m c) :
    θ_run defs (onTc (τ := τ) (main (F := F))) ⟨m, fun _ => 0, ρ⟩ (fun r => (∀ c : Dev nD,
      r.2.mem ((c.tc : Thread nD τ).loc main_v3) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have hin : ∀ (c : Dev nD) (w : Fin cfg0.W), (cfg0.win w).isOut = false → (dats m 0 c).arrAt w cfg0.N = V m c (Pipeline.arrRef spec0 w) :=
    fun c w h => ((dats m 0 c).arrAt_in w h _).trans (A_eq m c w)
  refine (θ_run defs _ _).mono (fun r h => ⟨fun c => ?_, h.2⟩) (run_main m ρ hG)
  obtain ⟨ha, hr⟩ := h.1 c
  exact ⟨ha 12, (ha 7).trans ((hin c 7 rfl).trans (V_main_arg0 m c)), (ha 1).trans ((hin c 1 rfl).trans (V_main_arg1 m c)),
    (ha 0).trans ((hin c 0 rfl).trans (V_main_arg2 m c)), (ha 3).trans ((hin c 3 rfl).trans (V_main_arg3 m c)),
    (hr main_arg4 (Pipeline.mem_restRefs_of main_arg4 (by decide) (by decide))).trans (V_main_arg4 m c),
    (ha 5).trans ((hin c 5 rfl).trans (V_main_arg5 m c)),
    (hr main_arg6 (Pipeline.mem_restRefs_of main_arg6 (by decide) (by decide))).trans (V_main_arg6 m c),
    (ha 8).trans ((hin c 8 rfl).trans (V_main_arg7 m c)), (ha 10).trans ((hin c 10 rfl).trans (V_main_arg8 m c)),
    (ha 9).trans ((hin c 9 rfl).trans (V_main_arg9 m c)),
    (hr main_arg10 (Pipeline.mem_restRefs_of main_arg10 (by decide) (by decide))).trans (V_main_arg10 m c)⟩

end Cert.KernelIdeal.Hand

end
-- ==== Proof.Pick.lean ====
/-
  The two greatest of eight extended reals, earlier first among equals: what a pair of masked maxima with a least index
  finds, what a stable sort puts at its first two places, and the weights the two are given.
-/
module

public import Idealize.ShloMosaic.Lib.Pointwise
public import Idealize.ShloMosaic.Lib.SortFacts
public import Idealize.ShloMosaic.Lib.IdealHost

@[expose] public section

noncomputable section

namespace Cert.Pick

open Idealize.ShloMosaic

/-- `a` goes before `b`: its value is greater, or they are equal and it stands earlier. -/
def Beats (L : Fin 8 → EReal) (a b : Fin 8) : Prop := L b < L a ∨ (L a = L b ∧ a < b)

/-- `a` goes before every other place. -/
def First (L : Fin 8 → EReal) (a : Fin 8) : Prop := ∀ e, ¬ Beats L e a

/-- `b` goes before every place but `a`. -/
def Second (L : Fin 8 → EReal) (a b : Fin 8) : Prop := b ≠ a ∧ ∀ e, e ≠ a → ¬ Beats L e b

theorem beats_total (L : Fin 8 → EReal) {a b : Fin 8} (h : a ≠ b) : Beats L a b ∨ Beats L b a := by
  unfold Beats
  rcases lt_trichotomy (L a) (L b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem First.unique {L : Fin 8 → EReal} {a b : Fin 8} (ha : First L a) (hb : First L b) : a = b := by
  by_contra h
  rcases beats_total L h with h | h
  · exact hb _ h
  · exact ha _ h

theorem Second.unique {L : Fin 8 → EReal} {a b c : Fin 8} (hb : Second L a b) (hc : Second L a c) : b = c := by
  by_contra h
  rcases beats_total L h with h | h
  · exact hc.2 _ hb.1 h
  · exact hb.2 _ hc.1 h

/-- With place `a` left out by the least value, the first of the rest is the second of all. -/
theorem second_of_masked {L : Fin 8 → EReal} (hL : ∀ e, L e ≠ ⊥) (a b : Fin 8)
    (hb : First (fun e => if e = a then ⊥ else L e) b) : Second L a b := by
  have hab : b ≠ a := by
    rintro rfl
    obtain ⟨e, he⟩ : ∃ e : Fin 8, e ≠ b := (by decide : ∀ b : Fin 8, ∃ e, e ≠ b) b
    refine hb e (.inl ?_)
    simp only [if_pos, if_neg he]
    exact bot_lt_iff_ne_bot.2 (hL e)
  refine ⟨hab, fun e he h => hb e ?_⟩
  unfold Beats at h ⊢
  simpa only [if_neg hab, if_neg he] using h

/-- The least signed word among the marked places' numbers, an unmarked place counting eight. -/
theorem least_marked : ∀ p : Fin 8 → Bool, (∃ e, p e = true) →
    ∃ a, p a = true ∧ (∀ e, e < a → p e = false)
      ∧ (Finset.univ : Finset (Fin 8)).fold (IntOp.minsi (w := 32)) 2147483647#32
          (fun e => if p e = true then BitVec.ofNat 32 e.val else 8#32) = BitVec.ofNat 32 a.val := by
  decide +kernel

/-- The least place at which the maximum stands is the first place. -/
theorem first_of_max (L : Fin 8 → EReal) :
    ∃ a, First L a ∧ (Finset.univ : Finset (Fin 8)).fold max ⊥ L = L a
      ∧ (Finset.univ : Finset (Fin 8)).fold (IntOp.minsi (w := 32)) 2147483647#32
          (fun e => if L e = (Finset.univ : Finset (Fin 8)).fold max ⊥ L then BitVec.ofNat 32 e.val else 8#32)
        = BitVec.ofNat 32 a.val := by
  have hM : ∀ e, L e ≤ (Finset.univ : Finset (Fin 8)).fold max ⊥ L := fun e =>
    (Finset.le_fold_max (L e)).2 (.inr ⟨e, Finset.mem_univ e, le_refl _⟩)
  obtain ⟨e₀, -, he₀⟩ := Finset.exists_max_image (Finset.univ : Finset (Fin 8)) L ⟨0, Finset.mem_univ 0⟩
  have hE : (Finset.univ : Finset (Fin 8)).fold max ⊥ L = L e₀ :=
    le_antisymm (Finset.fold_max_le (L e₀) |>.2 ⟨bot_le, fun e he => he₀ e he⟩) (hM e₀)
  obtain ⟨a, ha, hlt, hfold⟩ := least_marked (fun e => decide (L e = (Finset.univ : Finset (Fin 8)).fold max ⊥ L))
    ⟨e₀, decide_eq_true hE.symm⟩
  have ha' : L a = (Finset.univ : Finset (Fin 8)).fold max ⊥ L := of_decide_eq_true ha
  refine ⟨a, fun e => ?_, ha'.symm, ?_⟩
  · rintro (h | ⟨h, hl⟩)
    · exact absurd (hM e) (not_le.2 (ha' ▸ h))
    · exact of_decide_eq_false (hlt e hl) (h.trans ha')
  · simpa only [decide_eq_true_eq] using hfold

/-- A stable sort of an ascending list never compares equals the wrong way round. -/
theorem stableSort_eq {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.1 hb))

open Classical in
/-- The stable sort, greater first, puts the first and the second place at the front. -/
theorem sorted_first_second (L : Fin 8 → EReal) :
    First L (sortedFrom (fun a b => decide (L b < L a)) 0)
      ∧ Second L (sortedFrom (fun a b => decide (L b < L a)) 0) (sortedFrom (fun a b => decide (L b < L a)) 1) := by
  have hR : sortedFrom (fun a b => decide (L b < L a)) = sortedFrom (n := 8) (fun a b => decide (Beats L a b)) := by
    funext k
    unfold sortedFrom sortPositions
    have := stableSort_eq (n := 8) (fun a b => decide (L b < L a)) (fun a b => decide (Beats L a b)) (fun a b hab => by
      refine decide_eq_decide.2 ⟨fun h => .inl h, ?_⟩
      rintro (h | ⟨-, h⟩)
      · exact h
      · exact absurd h (not_lt.2 hab.le)) (List.finRange 8) (List.pairwise_lt_finRange 8)
    simp only [List.get_eq_getElem, this]
    rfl
  rw [hR]
  have hno := sortedFrom_noInversion (n := 8) (fun a b => decide (Beats L a b)) (fun a b => decide (Beats L a b))
    (fun a b h => decide_eq_false (by
      have := of_decide_eq_true h
      unfold Beats at this ⊢
      rintro (h2 | ⟨h2, h3⟩)
      · rcases this with h | ⟨h, -⟩
        · exact absurd h (not_lt.2 h2.le)
        · exact absurd h2 (by rw [h]; exact lt_irrefl _)
      · rcases this with h | ⟨-, h⟩
        · exact absurd h (by rw [h2]; exact lt_irrefl _)
        · exact absurd h (not_lt.2 h3.le))) (fun a b h => h)
    (fun a b c h1 h2 => decide_eq_false (by
      have h1 := of_decide_eq_false h1
      have h2 := of_decide_eq_false h2
      unfold Beats at h1 h2 ⊢
      push Not at h1 h2 ⊢
      refine ⟨h1.1.trans h2.1, fun h => ?_⟩
      have e1 : L a = L b := le_antisymm h1.1 (h ▸ h2.1)
      exact (h2.2 (e1.symm.trans h)).trans (h1.2 e1)))
  have hs := sortedFrom_surjective (n := 8) (fun a b => decide (Beats L a b))
  have hi := sortedFrom_injective (n := 8) (fun a b => decide (Beats L a b))
  refine ⟨fun e => ?_, fun h => absurd (hi h) (by decide), fun e he => ?_⟩
  · obtain ⟨k, rfl⟩ := hs e
    by_cases hk : k = 0
    · subst hk; unfold Beats; rintro (h | ⟨-, h⟩) <;> exact absurd h (lt_irrefl _)
    · exact of_decide_eq_false (hno 0 k (Fin.pos_iff_ne_zero.2 hk))
  · obtain ⟨k, rfl⟩ := hs e
    by_cases hk : k = 1
    · subst hk; unfold Beats; rintro (h | ⟨-, h⟩) <;> exact absurd h (lt_irrefl _)
    · have hk0 : k ≠ 0 := fun h => he (h ▸ rfl)
      refine of_decide_eq_false (hno 1 k ?_)
      have : k.val ≠ 0 := fun h => hk0 (Fin.ext h)
      have : k.val ≠ 1 := fun h => hk (Fin.ext h)
      exact Fin.lt_def.2 (by show 1 < k.val; omega)

/-- The greatest of the eight. -/
def top (L : Fin 8 → EReal) : EReal := (Finset.univ : Finset (Fin 8)).fold max ⊥ L

/-- A place's share: its exponential over the sum of all, each taken from the greatest. -/
def share (L : Fin 8 → EReal) (e : Fin 8) : EReal :=
  Ideal.div (Ideal.exp (L e - top L)) (∑ x, Ideal.exp (L x - top L))

theorem ofBits_neg_inf : Ideal.ofBits .f32 0xFF800000#32 = ⊥ := by
  simp [Ideal.ofBits, Ideal.ieee]

theorem eps_pos : 0 < Ideal.ofBits .f32 0x3089705F#32 := by
  have h : Ideal.ofBits .f32 0x3089705F#32 = (((9007199 : ℝ) * (2 : ℝ) ^ (-53 : ℤ) : ℝ) : EReal) := by
    simp [Ideal.ofBits, Ideal.ieee, -EReal.coe_mul]
  rw [h]
  exact EReal.coe_pos.2 (by positivity)

theorem exp_nonneg (x : EReal) : 0 ≤ Ideal.exp x := by
  induction x with
  | bot => exact le_refl _
  | top => exact le_top
  | coe r => exact EReal.coe_nonneg.2 (Real.exp_pos r).le

theorem share_nonneg {L : Fin 8 → EReal} (hb : ∀ e, L e ≠ ⊥) (ht : ∀ e, L e ≠ ⊤) (e : Fin 8) : 0 ≤ share L e := by
  obtain ⟨a, -, ha, -⟩ := first_of_max L
  have hone : Ideal.exp (L a - top L) = 1 := by
    unfold top
    rw [ha, EReal.sub_self (ht a) (hb a)]
    show ((Real.exp 0 : ℝ) : EReal) = 1
    rw [Real.exp_zero]; rfl
  have hsum : (1 : EReal) ≤ ∑ x, Ideal.exp (L x - top L) := hone ▸
    Finset.single_le_sum (f := fun x => Ideal.exp (L x - top L)) (fun x _ => exp_nonneg _) (Finset.mem_univ a)
  have hpos : (0 : EReal) < ∑ x, Ideal.exp (L x - top L) := lt_of_lt_of_le zero_lt_one hsum
  unfold share Ideal.div
  rw [if_neg hpos.ne']
  exact mul_nonneg (exp_nonneg _) (EReal.inv_nonneg_of_nonneg hpos.le)

/-- A sum over the eight places in which only two weigh. -/
theorem sum_two {a b : Fin 8} (h : b ≠ a) (f : Fin 8 → EReal) (hf : ∀ e, e ≠ a → e ≠ b → f e = 0) :
    ∑ e, f e = f a + f b := by
  rw [← Finset.sum_subset (Finset.subset_univ {a, b}) (fun e _ he => by
    simp only [Finset.mem_insert, Finset.mem_singleton, not_or] at he
    exact hf e he.1 he.2), Finset.sum_pair h.symm]

/-- The shares kept at two places only, over their sum and a small number, summed against `A`. -/
theorem gated_sum {L : Fin 8 → EReal} (hb : ∀ e, L e ≠ ⊥) (ht : ∀ e, L e ≠ ⊤) {a b : Fin 8} (h : b ≠ a) (A k : Fin 8 → EReal)
    (hk : ∀ e, k e = if e = a ∨ e = b then 1 else 0) (s : EReal) (hs : s = ∑ e, share L e * k e) :
    ∑ e, A e * Ideal.div (share L e * k e) (s + Ideal.ofBits .f32 0x3089705F#32)
      = A a * Ideal.div (share L a) (share L a + share L b + Ideal.ofBits .f32 0x3089705F#32)
        + A b * Ideal.div (share L b) (share L a + share L b + Ideal.ofBits .f32 0x3089705F#32) := by
  have ka : k a = 1 := (hk a).trans (if_pos (.inl rfl))
  have kb : k b = 1 := (hk b).trans (if_pos (.inr rfl))
  have ko : ∀ e, e ≠ a → e ≠ b → k e = 0 := fun e h1 h2 => (hk e).trans (if_neg (not_or.2 ⟨h1, h2⟩))
  have hs' : s = share L a + share L b := by
    rw [hs, sum_two h _ (fun e h1 h2 => by rw [ko e h1 h2, mul_zero]), ka, kb, mul_one, mul_one]
  have hden : share L a + share L b + Ideal.ofBits .f32 0x3089705F#32 ≠ 0 :=
    (lt_of_lt_of_le eps_pos (le_add_of_nonneg_left (add_nonneg (share_nonneg hb ht a) (share_nonneg hb ht b)))).ne'
  rw [hs', sum_two h _ (fun e h1 h2 => by rw [ko e h1 h2, mul_zero, Ideal.zero_div hden, mul_zero]), ka, kb, mul_one, mul_one]

/-- A number below eight survives the way to a float and back. -/
theorem fptosi_small (a : Fin 8) : Ideal.fptosi 32 (FloatOps.sitofp (F := Ideal) .f32 (BitVec.ofNat 32 a.val)) = BitVec.ofNat 32 a.val := by
  have h : (BitVec.ofNat 32 a.val).toInt = (a.val : ℤ) := (by decide : ∀ a : Fin 8, (BitVec.ofNat 32 a.val).toInt = (a.val : ℤ)) a
  show BitVec.ofInt 32 (max _ (min _ (if (0 : ℝ) ≤ ((BitVec.ofNat 32 a.val).toInt : ℝ) then _ else _))) = _
  rw [h, if_pos (by positivity)]
  have hfl : ⌊((a.val : ℤ) : ℝ)⌋ = (a.val : ℤ) := Int.floor_intCast _
  rw [hfl]
  exact (by decide : ∀ a : Fin 8, BitVec.ofInt 32 (max (-((2 ^ (32 - 1) : ℕ) : ℤ)) (min (((2 ^ (32 - 1) : ℕ) : ℤ) - 1) (a.val : ℤ))) = BitVec.ofNat 32 a.val) a

/-- A choice by whether two places are the same. -/
theorem select_same (a e : Fin 8) (x y : EReal) :
    Scalar.select (IntOp.cmpi .eq (BitVec.ofNat 32 e.val) (BitVec.ofNat 32 a.val)) x y = if e = a then x else y := by
  have hc : IntOp.cmpi .eq (BitVec.ofNat 32 e.val) (BitVec.ofNat 32 a.val) = if e = a then 1#1 else 0#1 :=
    (by decide : ∀ a e : Fin 8, BitVec.ofBool (BitVec.ofNat 32 e.val == BitVec.ofNat 32 a.val) = if e = a then 1#1 else 0#1) a e
  rw [hc]
  by_cases h : e = a
  · rw [if_pos h, if_pos h]; rfl
  · rw [if_neg h, if_neg h]; rfl

/-- One of eight numbers, picked out by its place's number and summed. -/
theorem sum_picked (a : Fin 8) (f : Fin 8 → EReal) :
    ∑ x, Scalar.select (IntOp.cmpi .eq (BitVec.ofNat 32 x.val) (BitVec.ofNat 32 a.val)) (f x) 0 = f a := by
  simp only [select_same, Finset.sum_ite_eq', Finset.mem_univ, if_true]

end Cert.Pick
-- ==== Proof.Route.lean ====
/-
  The routing words over the reals: of a row of eight logits the kernel packs the place of the first greatest, the place of the
  first greatest of the rest, and the weights of the two.
-/
module

public import proofs.«01_k».proof.Proof.Run
public import proofs.«01_k».proof.Proof.Pick
public import Idealize.ShloMosaic.Lib.Pipeline.ValueKit

@[expose] public section

set_option maxRecDepth 16384

noncomputable section

namespace Cert.KernelIdeal.Hand

open Cert.KernelIdeal Cert.KernelIdeal.Gen Cert.Pick
open Idealize.ShloMosaic Idealize.ShloMosaic.TcCoe Idealize.ShloMosaic.Tactic

variable (cyc : Vec Ideal S32x1 .f32) (w1c : Vec Ideal S1x2048 .f32) (acc : Vec Ideal S32x2048 .f32) (b1 : Vec Ideal S1x2048 .f32)
    (w2 : Vec Ideal S2048x8 .f32) (b2 : Vec Ideal S1x8 .f32) (b : Fin 32)

/-- A sample's row of logits, as the kernel computes it. -/
def logits (e : Fin 8) : EReal := k0_pay11 cyc w1c acc b1 w2 b2 (ix2 b e)

theorem logits_eq (e : Fin 8) : logits cyc w1c acc b1 w2 b2 b e
    = ∑ x : Fin 2048, max (acc (ix2 b x) + cyc (ix2 b 0) * w1c (ix2 0 x) + b1 (ix2 0 x)) 0 * w2 (ix2 x e) + b2 (ix2 0 e) := by
  unfold logits
  pointwise [k0_pay11]

theorem max_word : k0_pay12 cyc w1c acc b1 w2 b2 (ix2 b 0) = top (logits cyc w1c acc b1 w2 b2 b) := by
  have key : ∀ L : FVec Ideal S32x8 .f32, k0_pay11 cyc w1c acc b1 w2 b2 = L →
      k0_pay12 cyc w1c acc b1 w2 b2 (ix2 b 0) = top fun e => L (ix2 b e) := by
    intro L h
    unfold k0_pay12; rw [h]; clear h
    pointwise []
    rw [ofBits_neg_inf]; rfl
  exact key _ rfl

theorem first_word : k0_pay13 cyc w1c acc b1 w2 b2 (ix1 b) = Finset.univ.fold IntOp.minsi 2147483647#32
    (fun e : Fin 8 => if logits cyc w1c acc b1 w2 b2 b e = top (logits cyc w1c acc b1 w2 b2 b) then BitVec.ofNat 32 e.val else 8#32) := by
  have key : ∀ L : FVec Ideal S32x8 .f32, k0_pay11 cyc w1c acc b1 w2 b2 = L →
      k0_pay13 cyc w1c acc b1 w2 b2 (ix1 b) = Finset.univ.fold IntOp.minsi 2147483647#32
        (fun e : Fin 8 => if L (ix2 b e) = top (fun e => L (ix2 b e)) then BitVec.ofNat 32 e.val else 8#32) := by
    intro L h
    unfold k0_pay13 k0_pay12; rw [h]; clear h
    pointwise []
    rw [ofBits_neg_inf]; rfl
  exact key _ rfl

theorem mark_word (e : Fin 8) : k0_pay14 cyc w1c acc b1 w2 b2 (ix2 b e)
    = IntOp.cmpi .eq (BitVec.ofNat 32 e.val) (k0_pay13 cyc w1c acc b1 w2 b2 (ix1 b)) := by
  have key : ∀ L : IVec S32 32, k0_pay13 cyc w1c acc b1 w2 b2 = L →
      k0_pay14 cyc w1c acc b1 w2 b2 (ix2 b e) = IntOp.cmpi .eq (BitVec.ofNat 32 e.val) (L (ix1 b)) := by
    intro L h
    unfold k0_pay14; rw [h]; clear h
    pointwise []
  exact key _ rfl

theorem rest_word (e : Fin 8) : k0_pay15 cyc w1c acc b1 w2 b2 (ix2 b e)
    = Scalar.select (k0_pay14 cyc w1c acc b1 w2 b2 (ix2 b e)) ⊥ (logits cyc w1c acc b1 w2 b2 b e) := by
  have key : ∀ L : FVec Ideal S32x8 .f32, k0_pay11 cyc w1c acc b1 w2 b2 = L → ∀ M : IVec S32x8 1, k0_pay14 cyc w1c acc b1 w2 b2 = M →
      k0_pay15 cyc w1c acc b1 w2 b2 (ix2 b e) = Scalar.select (M (ix2 b e)) ⊥ (L (ix2 b e)) := by
    intro L h M h'
    unfold k0_pay15; rw [h, h']; clear h h'
    pointwise []
    rw [ofBits_neg_inf]
  exact key _ rfl _ rfl

theorem max_rest_word (e : Fin 8) : k0_pay16 cyc w1c acc b1 w2 b2 (ix2 b e)
    = top fun e => k0_pay15 cyc w1c acc b1 w2 b2 (ix2 b e) := by
  have key : ∀ L : FVec Ideal S32x8 .f32, k0_pay15 cyc w1c acc b1 w2 b2 = L →
      k0_pay16 cyc w1c acc b1 w2 b2 (ix2 b e) = top fun e => L (ix2 b e) := by
    intro L h
    unfold k0_pay16; rw [h]; clear h
    pointwise []
    rw [ofBits_neg_inf]; rfl
  exact key _ rfl

section Words

variable (v53 : FVec Ideal S32x8 .f32) (v56 : FVec Ideal S32x1 .f32) (v61 : IVec S32 32) (v64 : IVec S32x8 1)
    (v66 : FVec Ideal S32x8 .f32) (v69 : FVec Ideal S32x8 .f32) (L R : Fin 8 → EReal) (a a' : Fin 8)

/-- The four packed words of a row, from the two places. -/
theorem words_eq (hL : ∀ e, v53 (ix2 b e) = L e) (ht : v56 (ix2 b 0) = top L) (ha : v61 (ix1 b) = BitVec.ofNat 32 a.val)
    (hm : ∀ e : Fin 8, v64 (ix2 b e) = IntOp.cmpi .eq (BitVec.ofNat 32 e.val) (BitVec.ofNat 32 a.val))
    (hR : ∀ e, v66 (ix2 b e) = R e) (hr : ∀ e, v69 (ix2 b e) = top R)
    (ha' : Finset.univ.fold IntOp.minsi 2147483647#32
      (fun e : Fin 8 => if R e = top R then BitVec.ofNat 32 e.val else 8#32) = BitVec.ofNat 32 a'.val) :
    k0_pay9 v53 (iota .tc S32x8 32 [1] iota_S32x8_d1_w32) v56 v61 v64 v66 v69 (ix2 b 0) = FloatOps.sitofp (F := Ideal) .f32 (BitVec.ofNat 32 a.val)
    ∧ k0_pay9 v53 (iota .tc S32x8 32 [1] iota_S32x8_d1_w32) v56 v61 v64 v66 v69 (ix2 b 1) = FloatOps.sitofp (F := Ideal) .f32 (BitVec.ofNat 32 a'.val)
    ∧ k0_pay9 v53 (iota .tc S32x8 32 [1] iota_S32x8_d1_w32) v56 v61 v64 v66 v69 (ix2 b 2)
      = Ideal.div (share L a) (share L a + share L a' + Ideal.ofBits .f32 0x3089705F#32)
    ∧ k0_pay9 v53 (iota .tc S32x8 32 [1] iota_S32x8_d1_w32) v56 v61 v64 v66 v69 (ix2 b 3)
      = Ideal.div (share L a') (share L a + share L a' + Ideal.ofBits .f32 0x3089705F#32) := by
  have s1 : (∑ x : Fin 8, Scalar.select (IntOp.cmpi .eq (BitVec.ofNat 32 x.val) (BitVec.ofNat 32 a.val)) (share L x) 0) = share L a := sum_picked a _
  have s2 : (∑ x : Fin 8, Scalar.select (IntOp.cmpi .eq (BitVec.ofNat 32 x.val) (BitVec.ofNat 32 a'.val)) (share L x) 0) = share L a' := sum_picked a' _
  unfold share at s1 s2 ⊢
  refine ⟨?_, ?_, ?_, ?_⟩
  · pointwise [k0_pay9]
    simp only [ha]
  · pointwise [k0_pay9]
    simp only [hR, hr, ha']
  · pointwise [k0_pay9]
    simp only [hL, ht, hm, hR, hr, ha', s1, s2]
  · pointwise [k0_pay9]
    simp only [hL, ht, hm, hR, hr, ha', s1, s2]

end Words

/-- The packed words of a sample: the places of the first greatest logit and of the first greatest once that one is set to `-∞`,
    and the two weights. -/
theorem pack_words : ∃ a a' : Fin 8, First (logits cyc w1c acc b1 w2 b2 b) a
    ∧ First (fun e => if e = a then ⊥ else logits cyc w1c acc b1 w2 b2 b e) a'
    ∧ packOf cyc w1c acc b1 w2 b2 (ix2 b 0) = FloatOps.sitofp (F := Ideal) .f32 (BitVec.ofNat 32 a.val)
    ∧ packOf cyc w1c acc b1 w2 b2 (ix2 b 1) = FloatOps.sitofp (F := Ideal) .f32 (BitVec.ofNat 32 a'.val)
    ∧ packOf cyc w1c acc b1 w2 b2 (ix2 b 2) = Ideal.div (share (logits cyc w1c acc b1 w2 b2 b) a)
        (share (logits cyc w1c acc b1 w2 b2 b) a + share (logits cyc w1c acc b1 w2 b2 b) a' + Ideal.ofBits .f32 0x3089705F#32)
    ∧ packOf cyc w1c acc b1 w2 b2 (ix2 b 3) = Ideal.div (share (logits cyc w1c acc b1 w2 b2 b) a')
        (share (logits cyc w1c acc b1 w2 b2 b) a + share (logits cyc w1c acc b1 w2 b2 b) a' + Ideal.ofBits .f32 0x3089705F#32) := by
  obtain ⟨a, ha, -, hw⟩ := first_of_max (logits cyc w1c acc b1 w2 b2 b)
  obtain ⟨a', ha', -, hw'⟩ := first_of_max fun e => if e = a then ⊥ else logits cyc w1c acc b1 w2 b2 b e
  have h13 := (first_word cyc w1c acc b1 w2 b2 b).trans hw
  have h14 : ∀ e : Fin 8, k0_pay14 cyc w1c acc b1 w2 b2 (ix2 b e) = IntOp.cmpi .eq (BitVec.ofNat 32 e.val) (BitVec.ofNat 32 a.val) :=
    fun e => (mark_word cyc w1c acc b1 w2 b2 b e).trans (by rw [h13])
  have h15 : ∀ e : Fin 8, k0_pay15 cyc w1c acc b1 w2 b2 (ix2 b e) = if e = a then ⊥ else logits cyc w1c acc b1 w2 b2 b e := fun e => by
    rw [rest_word, h14, select_same]
  refine ⟨a, a', ha, ha', ?_⟩
  exact words_eq b _ _ _ _ _ _ (logits cyc w1c acc b1 w2 b2 b) _ a a' (fun e => rfl) (max_word cyc w1c acc b1 w2 b2 b) h13 h14 h15
    (fun e => (max_rest_word cyc w1c acc b1 w2 b2 b e).trans (congrArg top (funext h15))) hw'

/-- The two places read back from the packed words are below eight. -/
theorem routed (m : (ℓ : Loc nD τ sig) → Buf (Elt Ideal) ℓ) (c : Dev nD) : Routed m c := by
  intro y hy
  obtain ⟨b, j, rfl⟩ : ∃ (b : Fin 32) (j : Fin 4), y = ix2 b j := ⟨y 0, y 1, by funext k; fin_cases k <;> rfl⟩
  obtain ⟨a, a', -, -, h0, h1, -⟩ := pack_words (w1 m c (pt 3)) (firstRow (w3 m c (pt 3))) (accAt m c 3) (w4 m c (pt 3)) (w5 m c (pt 3))
    (w6 m c (pt 3)) b
  have small : ∀ a : Fin 8, (Scalar.fptosi (F := Ideal) (φ := .f32) 32 (FloatOps.sitofp (F := Ideal) .f32 (BitVec.ofNat 32 a.val))).toNat < 8 := by
    intro a
    rw [show Scalar.fptosi (F := Ideal) (φ := .f32) 32 (FloatOps.sitofp (F := Ideal) .f32 (BitVec.ofNat 32 a.val)) = BitVec.ofNat 32 a.val from
      fptosi_small a, BitVec.toNat_ofNat]
    exact lt_of_le_of_lt (Nat.mod_le _ _) a.isLt
  have hj : j = 0 ∨ j = 1 := (by decide : ∀ j : Fin 4, j.val < 2 → j = 0 ∨ j = 1) j hy
  unfold packAll
  rcases hj with rfl | rfl
  · rw [h0]; exact small a
  · rw [h1]; exact small a'

end Cert.KernelIdeal.Hand
-- ==== Proof.Frames.lean ====
/-
  The frames over the reals: the kernel and the reference run from any memory, their arguments end unchanged, and every counter
  ends at zero.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Route
public import Idealize.ShloMosaic.Lib.Quiescent

@[expose] public section

noncomputable section

namespace Cert.Frames

open Idealize.ShloMosaic Idealize.SL.Sem

theorem kernel : Cert.quiescent_KernelIdeal (hKernelIdeal := Cert.KernelIdeal.Gen.facts) := fun m g _ =>
  (θ_run _ _ _).mono (fun _ h => ⟨fun c => (h.1 c).2, h.2⟩) (Cert.KernelIdeal.Hand.run m g fun c => Cert.KernelIdeal.Hand.routed m c)

theorem reference : Cert.quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

end Cert.Frames

end
-- ==== Proof.Blocks.lean ====
/-
  The kernel's blocks and scratch arrays read at an index, as elements of the arrays it was launched on.
-/
module

public import proofs.«01_k».proof.Proof.Contents
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The index maps of the windows that stay. -/
theorem idx : ∀ t : Fin cfg0.N, win0_1.index t = ![0, 0] ∧ win0_4.index t = ![0, 0] ∧ win0_5.index t = ![0, 0] ∧ win0_6.index t = ![0, 0]
    ∧ win0_9.index t = ![0, 0] ∧ win0_10.index t = ![0, 0] ∧ win0_11.index t = ![0, 0] :=
  (by decide +kernel : ∀ t : Fin grid0.N, _)

/-- The index maps of the windows that move, over the first half of the grid. -/
theorem idx_first : ∀ t : Fin cfg0.N, t.val < 4 → win0_0.index t = ![0, t.val] ∧ win0_2.index t = ![t.val, 0] ∧ win0_3.index t = ![512, 0]
    ∧ win0_7.index t = ![t.val, 0, 0, 0] ∧ win0_8.index t = ![t.val, 0, 0] :=
  (by decide +kernel : ∀ t : Fin grid0.N, _)

/-- The index map of the result's window, over the second half. -/
theorem idx_out : ∀ t : Fin cfg0.N, 4 ≤ t.val → win0_12.index t = ![t.val - 4, 0, 0] ∧ (grid0.coords t 0).val = t.val :=
  (by decide +kernel : ∀ t : Fin grid0.N, _)

theorem w1_at (t : Fin cfg0.N) (b : Fin 32) (k : Fin 1) : w1 m c t (ix2 b k) = m ((c : Thread nD τ).loc main_arg1) (ix2 b 0) := by
  unfold w1
  blk_point [iblk, V, idx t]

theorem w4_at (t : Fin cfg0.N) (b : Fin 1) (k : Fin 2048) : w4 m c t (ix2 b k) = m ((c : Thread nD τ).loc main_arg4) (ix1 k) := by
  unfold w4
  blk_point [iblk, V, idx t]

theorem w5_at (t : Fin cfg0.N) (b : Fin 2048) (k : Fin 8) : w5 m c t (ix2 b k) = m ((c : Thread nD τ).loc main_arg5) (ix2 b k) := by
  unfold w5
  blk_point [iblk, V, idx t]

theorem w6_at (t : Fin cfg0.N) (b : Fin 1) (k : Fin 8) : w6 m c t (ix2 b k) = m ((c : Thread nD τ).loc main_arg6) (ix1 k) := by
  unfold w6
  blk_point [iblk, V, idx t]

theorem w9_at (t : Fin cfg0.N) (b : Fin 384) (k : Fin 1024) : w9 m c t (ix2 b k) = m ((c : Thread nD τ).loc main_arg9) (ix2 b k) := by
  unfold w9
  blk_point [iblk, V, idx t]

theorem w10_at (t : Fin cfg0.N) (b : Fin 8) (k : Fin 1024) : w10 m c t (ix2 b k) = m ((c : Thread nD τ).loc main_arg8) (ix2 b k) := by
  unfold w10
  blk_point [iblk, V, idx t]

theorem w11_at (t : Fin cfg0.N) (b : Fin 1) (k : Fin 1024) : w11 m c t (ix2 b k) = m ((c : Thread nD τ).loc main_arg10) (ix1 k) := by
  unfold w11
  blk_point [iblk, V, idx t]

theorem w0_at (t : Fin cfg0.N) (ht : t.val < 4) (b : Fin 32) (k : Fin 1024) :
    w0 m c t (ix2 b k) = m ((c : Thread nD τ).loc main_arg2) (ix2 b ⟨t.val * 1024 + k.val, by omega⟩) := by
  unfold w0
  blk_point [iblk, V, idx_first t ht]

theorem w7_at (t : Fin cfg0.N) (ht : t.val < 4) (b : Fin 8) (s : Fin 64) (p : Fin 3) (q : Fin 128) :
    w7 m c t (ix4 b s p q) = m ((c : Thread nD τ).loc main_arg0) (ix4 ⟨t.val * 8 + b.val, by omega⟩ s p q) := by
  unfold w7
  blk_point [iblk, V, idx_first t ht]

theorem w8_at (t : Fin cfg0.N) (ht : t.val < 4) (b : Fin 2) (s : Fin 384) (p : Fin 1024) :
    w8 m c t (ix3 b s p) = m ((c : Thread nD τ).loc main_arg7) (ix3 ⟨t.val * 2 + b.val, by omega⟩ s p) := by
  unfold w8
  blk_point [iblk, V, idx_first t ht]

theorem w2_at (t : Fin cfg0.N) (ht : t.val < 4) (k : Fin 1024) (x : Fin 2048) :
    w2 m c t (ix2 k x) = m ((c : Thread nD τ).loc main_arg3) (ix2 ⟨t.val * 1024 + k.val, by omega⟩ x) := by
  unfold w2 X0_2 Pipeline.Window.fill
  rw [dif_pos (moved0_2 t _)]
  blk_point [iblk, V, idx_first t ht]

theorem w3_at (t : Fin cfg0.N) (ht : t.val < 4) (k : Fin 1) (x : Fin 2048) (r : Fin 4097) (hr : r.val = 512 * 8) :
    firstRow (w3 m c t) (ix2 k x) = m ((c : Thread nD τ).loc main_arg3) (ix2 r x) := by
  unfold firstRow w3 VecWindow.window
  have hm : (cfg0.win 3).moved (cfg0.grid.coords t) ((Rect.unit (s := S8x2048) ![0, 0] S1x2048.size inb_S8x2048_S1x2048_0_0).emb (ix2 k x)) = true := by
    refine ((cfg0.win 3).moved_iff _ _).mpr fun a => ?_
    refine lt_of_lt_of_le ?_ (row3_moved t a)
    match a with
    | ⟨0, _⟩ => show 0 + 1 * k.val < 1; omega
    | ⟨1, _⟩ => show 0 + 1 * x.val < 2048; omega
  unfold Pipeline.Window.fill
  rw [dif_pos hm]
  obtain ⟨_, _, h3, _⟩ := idx_first t ht
  show m ((c : Thread nD τ).loc main_arg3) _ = _
  have h30 : win0_3.index t 0 = 512 := by rw [h3]; rfl
  have h31 : win0_3.index t 1 = 0 := by rw [h3]; rfl
  have e0 : win0_3.index t 0 * 8 + 1 * (0 + 1 * k.val) = r.val := by omega
  have e1 : win0_3.index t 1 * 2048 + 1 * (0 + 1 * x.val) = x.val := by omega
  exact congrArg _ (funext (Fin.forall_fin_two.mpr ⟨Fin.ext e0, Fin.ext e1⟩))

end Cert.KernelIdeal.Hand
-- ==== Proof.Scratch.lean ====
/-
  What the first half of the grid leaves in the scratch arrays, and what the second half makes of it, at an index.
-/
module

public import proofs.«01_k».proof.Proof.Blocks
public import proofs.«01_k».proof.Proof.Route

@[expose] public section

set_option maxRecDepth 16384

noncomputable section

namespace Cert.KernelIdeal.Hand

open Cert.KernelIdeal Cert.KernelIdeal.Gen Cert.Pick
open Idealize.ShloMosaic Idealize.ShloMosaic.TcCoe Idealize.ShloMosaic.Tactic

variable (m : (ℓ : Loc nD τ sig) → Buf (Elt Ideal) ℓ) (c : Dev nD)

/-! ## The arrays the kernel is launched on -/

abbrev aX : Vec Ideal S32x64x3x128 .f32 := m ((c : Thread nD τ).loc main_arg0)
abbrev aCyc : Vec Ideal S32x1 .f32 := m ((c : Thread nD τ).loc main_arg1)
abbrev aDkp : Vec Ideal S32x4096 .f32 := m ((c : Thread nD τ).loc main_arg2)
abbrev aW1 : Vec Ideal S4097x2048 .f32 := m ((c : Thread nD τ).loc main_arg3)
abbrev aB1 : Vec Ideal S2048 .f32 := m ((c : Thread nD τ).loc main_arg4)
abbrev aW2 : Vec Ideal S2048x8 .f32 := m ((c : Thread nD τ).loc main_arg5)
abbrev aB2 : Vec Ideal S8 .f32 := m ((c : Thread nD τ).loc main_arg6)
abbrev aWe : Vec Ideal S8x384x1024 .f32 := m ((c : Thread nD τ).loc main_arg7)
abbrev aBe : Vec Ideal S8x1024 .f32 := m ((c : Thread nD τ).loc main_arg8)
abbrev aWg : Vec Ideal S384x1024 .f32 := m ((c : Thread nD τ).loc main_arg9)
abbrev aBg : Vec Ideal S1024 .f32 := m ((c : Thread nD τ).loc main_arg10)

/-! ## The payloads at an index -/

theorem cast_data_at (x : Vec Ideal S8x64x3x128 .f32) (r : Fin 512) (k : Fin 384) :
    k0_pay4 x (ix2 r k) = x (ix4 ⟨r.val / 64, by omega⟩ ⟨r.val % 64, by omega⟩ ⟨k.val / 128, by omega⟩ ⟨k.val % 128, by omega⟩) := by
  pointwise [k0_pay4, k0_pay3]

theorem general_at (x : Vec Ideal S8x64x3x128 .f32) (w : Vec Ideal S384x1024 .bf16) (r : Fin 512) (d : Fin 1024) :
    k0_pay5 x w (ix2 r d) = ∑ k : Fin 384, x (ix4 ⟨r.val / 64, by omega⟩ ⟨r.val % 64, by omega⟩ ⟨k.val / 128, by omega⟩ ⟨k.val % 128, by omega⟩) * w (ix2 k d) := by
  pointwise [k0_pay5, k0_pay3]

theorem first_part_at (x : Vec Ideal S32x1024 .f32) (w : Vec Ideal S1024x2048 .f32) (b : Fin 32) (h : Fin 2048) :
    k0_pay7 x w (ix2 b h) = ∑ k : Fin 1024, x (ix2 b k) * w (ix2 k h) := by
  pointwise [k0_pay7, k0_pay6]

theorem next_part_at (x : Vec Ideal S32x1024 .f32) (w : Vec Ideal S1024x2048 .f32) (acc : Vec Ideal S32x2048 .f32) (b : Fin 32) (h : Fin 2048) :
    k0_pay8 x w acc (ix2 b h) = acc (ix2 b h) + ∑ k : Fin 1024, x (ix2 b k) * w (ix2 k h) := by
  pointwise [k0_pay8, k0_pay6]

theorem mix_at (g0 g1 : EReal) (x : Vec Ideal S64x384 .bf16) (u v : Vec Ideal S1x384x1024 .bf16) (y : Vec Ideal S64x1024 .f32)
    (bg p q : Vec Ideal S1x1024 .f32) (s : Fin 64) (d : Fin 1024) :
    k0_pay25 (F := Ideal) g0 g1 x u v y bg p q (ix3 0 s d)
      = ((y (ix2 s d) + bg (ix2 0 d)) + g0 * ((∑ k : Fin 384, x (ix2 s k) * u (ix3 0 k d)) + p (ix2 0 d)))
        + g1 * ((∑ k : Fin 384, x (ix2 s k) * v (ix3 0 k d)) + q (ix2 0 d)) := by
  pointwise [k0_pay25]

/-! ## The scratch arrays -/

theorem pt_lt (n : ℕ) (h : n < 4) : (pt n).val = n := Nat.mod_eq_of_lt (by omega)

theorem wgAll_at (k : Fin 384) (d : Fin 1024) : wgAll m c (ix2 k d) = aWg m c (ix2 k d) := by
  have e : wgAll m c (ix2 k d) = w9 m c (pt 0) (ix2 k d) := by
    unfold wgAll
    generalize w9 m c (pt 0) = x
    pointwise [k0_pay1]
  rw [e, w9_at]

theorem weAll_at (e : Fin 8) (k : Fin 384) (d : Fin 1024) : weAll m c (ix3 e k d) = aWe m c (ix3 e k d) := by
  have key : ∀ x : Vec Ideal S2x384x1024 .f32, ∀ r : Fin 2, k0_pay2 x (ix3 r k d) = x (ix3 r k d) := by
    intro x r
    pointwise [k0_pay2]
  have hp : (pt (e.val / 2)).val = e.val / 2 := pt_lt _ (by omega)
  refine (key (w8 m c (pt (e.val / 2))) ⟨e.val % 2, by omega⟩).trans ((w8_at m c _ (by omega) _ _ _).trans ?_)
  exact congrArg (fun r => aWe m c (ix3 r k d)) (Fin.ext (by show (pt (e.val / 2)).val * 2 + e.val % 2 = e.val; omega))

theorem xAll_at (b : Fin 32) (s : Fin 64) (k : Fin 384) (r : Fin 2048) (hr : r.val = 64 * b.val + s.val) :
    xAll m c (ix2 r k) = aX m c (ix4 b s ⟨k.val / 128, by omega⟩ ⟨k.val % 128, by omega⟩) := by
  have hp : (pt (r.val / 512)).val = r.val / 512 := pt_lt _ (by omega)
  refine (cast_data_at (w7 m c (pt (r.val / 512))) ⟨r.val % 512, by omega⟩ k).trans ((w7_at m c _ (by omega) _ _ _ _).trans ?_)
  exact congrArg₂ (fun p q => aX m c (ix4 p q ⟨k.val / 128, by omega⟩ ⟨k.val % 128, by omega⟩))
    (Fin.ext (by show (pt (r.val / 512)).val * 8 + r.val % 512 / 64 = b.val; omega)) (Fin.ext (by show r.val % 512 % 64 = s.val; omega))

theorem yAll_at (b : Fin 32) (s : Fin 64) (d : Fin 1024) (r : Fin 2048) (hr : r.val = 64 * b.val + s.val) :
    yAll m c (ix2 r d) = ∑ k : Fin 384, aX m c (ix4 b s ⟨k.val / 128, by omega⟩ ⟨k.val % 128, by omega⟩)
      * aWg m c (ix2 k d) := by
  refine (general_at (w7 m c (pt (r.val / 512))) (wgAll m c) ⟨r.val % 512, by omega⟩ d).trans (Finset.sum_congr rfl fun k _ => ?_)
  refine congrArg₂ (fun p q : EReal => p * q) ?_ (wgAll_at m c k d)
  exact (cast_data_at (w7 m c (pt (r.val / 512))) ⟨r.val % 512, by omega⟩ k).symm.trans (xAll_at m c b s k r hr)

/-- One point's part of the product. -/
def part (b : Fin 32) (h : Fin 2048) (n : ℕ) : EReal :=
  ∑ k : Fin 1024, w0 m c (pt n) (ix2 b k) * w2 m c (pt n) (ix2 k h)

theorem accAt_parts (b : Fin 32) (h : Fin 2048) : accAt m c 3 (ix2 b h) = part m c b h 0 + part m c b h 1 + part m c b h 2 + part m c b h 3 := by
  have e0 : accAt m c 0 (ix2 b h) = part m c b h 0 := first_part_at _ _ b h
  have e1 : accAt m c 1 (ix2 b h) = accAt m c 0 (ix2 b h) + part m c b h 1 := next_part_at _ _ _ b h
  have e2 : accAt m c 2 (ix2 b h) = accAt m c 1 (ix2 b h) + part m c b h 2 := next_part_at _ _ _ b h
  have e3 : accAt m c 3 (ix2 b h) = accAt m c 2 (ix2 b h) + part m c b h 3 := next_part_at _ _ _ b h
  rw [e3, e2, e1, e0]

theorem accAt_at (b : Fin 32) (h : Fin 2048) : accAt m c 3 (ix2 b h)
    = ∑ k : Fin 4096, aDkp m c (ix2 b k) * aW1 m c (ix2 ⟨k.val, by omega⟩ h) := by
  rw [accAt_parts]
  have hs := Fin.sum_mul_add_fin (M := EReal) (n := 1024) (L := 4096) 4
    (fun k => aDkp m c (ix2 b k) * aW1 m c (ix2 ⟨k.val, by omega⟩ h))
  rw [← hs, Fin.sum_univ_four]
  have hpart : ∀ n : Fin 4, part m c b h n.val = ∑ k : Fin 1024, aDkp m c (ix2 b ⟨n.val * 1024 + k.val, by omega⟩)
      * aW1 m c (ix2 ⟨n.val * 1024 + k.val, by omega⟩ h) := by
    intro n
    have hp := pt_lt n.val n.isLt
    refine Finset.sum_congr rfl fun k _ => congrArg₂ (fun p q : EReal => p * q) ((w0_at m c (pt n.val) (by omega) b k).trans ?_) ((w2_at m c (pt n.val) (by omega) k h).trans ?_)
    · exact congrArg (fun r => aDkp m c (ix2 b r)) (Fin.ext (by show (pt n.val).val * 1024 + k.val = n.val * 1024 + k.val; omega))
    · exact congrArg (fun r => aW1 m c (ix2 r h)) (Fin.ext (by show (pt n.val).val * 1024 + k.val = n.val * 1024 + k.val; omega))
  exact congrArg₂ (fun p q : EReal => p + q) (congrArg₂ (fun p q : EReal => p + q) (congrArg₂ (fun p q : EReal => p + q) (hpart 0) (hpart 1)) (hpart 2)) (hpart 3)

end Cert.KernelIdeal.Hand
-- ==== Proof.Result.lean ====
/-
  The kernel's result at an index.
-/
module

public import proofs.«01_k».proof.Proof.Scratch

@[expose] public section

set_option maxRecDepth 16384

noncomputable section

namespace Cert.KernelIdeal.Hand

open Cert.KernelIdeal Cert.KernelIdeal.Gen Cert.Pick
open Idealize.ShloMosaic Idealize.ShloMosaic.TcCoe Idealize.ShloMosaic.Tactic

variable (m : (ℓ : Loc nD τ sig) → Buf (Elt Ideal) ℓ) (c : Dev nD)

/-- The result's array after the run: eight samples from each point of the second half. -/
def outArr : Vec Ideal S32x64x1024 .f32 := fun i =>
  outAt m c (pt (4 + (i 0).val / 8)) (ix3 ⟨(i 0).val % 8, Nat.mod_lt _ (by decide)⟩ (i 1) (i 2))

theorem arr_eq : (dats m 0 c).arrAt 12 cfg0.N = outArr m c := by
  refine (dats m 0 c).arrAt_eq_of_covers 12 _ (by decide +kernel) fun t hf y => ?_
  have ht : 4 ≤ t.val := by
    rw [flush_out] at hf
    exact of_decide_eq_true hf
  blk_simp
  rw [after_out]
  have h := (idx_out t ht).1
  have y0 : (y 0).val < 8 := (y 0).isLt
  have tN : t.val < 8 := lt_of_lt_of_eq t.isLt N_0
  obtain ⟨i, hi⟩ : ∃ i : S32x64x1024.Idx, i = (win0_12.blk t).view.emb y := ⟨_, rfl⟩
  have i0 : (i 0).val = (t.val - 4) * 8 + (y 0).val := by
    have e : (i 0).val = win0_12.index t 0 * 8 + 1 * (y 0).val := by rw [hi]; rfl
    rw [e, h]; show (t.val - 4) * 8 + 1 * (y 0).val = _; omega
  have i1 : (i 1).val = (y 1).val := by
    have e : (i 1).val = win0_12.index t 1 * 64 + 1 * (y 1).val := by rw [hi]; rfl
    rw [e, h]; show 0 * 64 + 1 * (y 1).val = _; omega
  have i2 : (i 2).val = (y 2).val := by
    have e : (i 2).val = win0_12.index t 2 * 1024 + 1 * (y 2).val := by rw [hi]; rfl
    rw [e, h]; show 0 * 1024 + 1 * (y 2).val = _; omega
  refine Eq.trans ?_ (congrArg (outArr m c) hi)
  have ep : pt (4 + (i 0).val / 8) = t := Fin.ext (by show (4 + (i 0).val / 8) % 8 = t.val; omega)
  unfold outArr
  rw [ep]
  refine congrArg (outAt m c t) (funext fun a => Fin.ext ?_)
  match a with
  | ⟨0, _⟩ => show (y 0).val = (i 0).val % 8; omega
  | ⟨1, _⟩ => exact i1.symm
  | ⟨2, _⟩ => exact i2.symm

/-- What the two picked experts and the general one make of a sample, in the kernel's order. -/
def blend (a a' : Fin 8) (g g' : EReal) (b : Fin 32) (s : Fin 64) (d : Fin 1024) : EReal :=
  (((∑ k : Fin 384, aX m c (ix4 b s ⟨k.val / 128, by omega⟩ ⟨k.val % 128, by omega⟩) * aWg m c (ix2 k d)) + aBg m c (ix1 d))
    + g * ((∑ k : Fin 384, aX m c (ix4 b s ⟨k.val / 128, by omega⟩ ⟨k.val % 128, by omega⟩) * aWe m c (ix3 a k d)) + aBe m c (ix2 a d)))
    + g' * ((∑ k : Fin 384, aX m c (ix4 b s ⟨k.val / 128, by omega⟩ ⟨k.val % 128, by omega⟩) * aWe m c (ix3 a' k d)) + aBe m c (ix2 a' d))

theorem wordAt_eq (G : Vec Ideal S32x4 .f32) (b : Fin 32) (j : Fin 4) : wordAt G ![b.val, j.val] = G (ix2 b j) :=
  congrArg₂ (fun p q => G (ix2 p q)) (Fin.ext (Nat.mod_eq_of_lt b.isLt)) (Fin.ext (Nat.mod_eq_of_lt j.isLt))

theorem picked (G : Vec Ideal S32x4 .f32) (b : Fin 32) (j : Fin 4) (a : Fin 8)
    (h : G (ix2 b j) = FloatOps.sitofp (F := Ideal) .f32 (BitVec.ofNat 32 a.val)) :
    (Scalar.fptosi (F := Ideal) (φ := .f32) 32 (wordAt G ![b.val, j.val])).toNat = a.val := by
  rw [wordAt_eq, h]
  refine (congrArg BitVec.toNat (fptosi_small a)).trans ?_
  rw [BitVec.toNat_ofNat]
  exact Nat.mod_eq_of_lt (by omega)

theorem sample_at (b : Fin 32) (s : Fin 64) (d : Fin 1024) (a a' : Fin 8) (g g' : EReal) (t : Fin cfg0.N)
    (h0 : packAll m c (ix2 b 0) = FloatOps.sitofp (F := Ideal) .f32 (BitVec.ofNat 32 a.val))
    (h1 : packAll m c (ix2 b 1) = FloatOps.sitofp (F := Ideal) .f32 (BitVec.ofNat 32 a'.val))
    (h2 : packAll m c (ix2 b 2) = g) (h3 : packAll m c (ix2 b 3) = g') :
    sampleOut (packAll m c) (xAll m c) (weAll m c) (yAll m c) (w10 m c t) (w11 m c t) b.val (ix3 0 s d) = blend m c a a' g g' b s d := by
  have q0 : (Scalar.fptosi (F := Ideal) (φ := .f32) 32 (wordAt (packAll m c) ![b.val, 0])).toNat = a.val := picked (packAll m c) b 0 a h0
  have q1 : (Scalar.fptosi (F := Ideal) (φ := .f32) 32 (wordAt (packAll m c) ![b.val, 1])).toNat = a'.val := picked (packAll m c) b 1 a' h1
  have q2 : wordAt (packAll m c) ![b.val, 2] = g := (wordAt_eq _ b 2).trans h2
  have q3 : wordAt (packAll m c) ![b.val, 3] = g' := (wordAt_eq _ b 3).trans h3
  have hx : ∀ k : Fin 384, rowsAt (xAll m c) ![64 * b.val, 0] (ix2 s k)
      = aX m c (ix4 b s ⟨k.val / 128, by omega⟩ ⟨k.val % 128, by omega⟩) := fun k =>
    xAll_at m c b s k _ (by show (64 * b.val + s.val) % 2048 = _; omega)
  have hy : yrowsAt (yAll m c) ![64 * b.val, 0] (ix2 s d) = _ := yAll_at m c b s d _ (by show (64 * b.val + s.val) % 2048 = _; omega)
  have hu : ∀ (e : Fin 8) (k : Fin 384), slabAt (weAll m c) ![e.val, 0, 0] (ix3 0 k d) = aWe m c (ix3 e k d) := fun e k =>
    (congrArg (fun r => weAll m c (ix3 r k d)) (Fin.ext (Nat.mod_eq_of_lt e.isLt))).trans (weAll_at m c e k d)
  have hp : ∀ e : Fin 8, browAt (w10 m c t) ![e.val, 0] (ix2 0 d) = aBe m c (ix2 e d) := fun e =>
    (congrArg (fun r => w10 m c t (ix2 r d)) (Fin.ext (Nat.mod_eq_of_lt e.isLt))).trans (w10_at m c t e d)
  unfold sampleOut
  refine (mix_at _ _ _ _ _ _ _ _ _ s d).trans ?_
  show _ = blend m c a a' g g' b s d
  unfold blend
  rw [q0, q1, q2, q3, hy, w11_at, hp, hp]
  simp only [hx, hu]

end Cert.KernelIdeal.Hand
-- ==== Proof.Ref.lean ====
/-
  The reference over the reals, read at an index: the router's logits, the places that the two greatest take, the mask the scatter
  builds of them, the gates, and the mixed result.
-/
module

public import proofs.«01_k».proof.Proof.Gen.ReferenceIdeal.Run
public import proofs.«01_k».proof.Proof.Pick
public import Idealize.ShloMosaic.Lib.Pipeline.ValueKit
public import Idealize.ShloMosaic.Lib.Routing.OpsPair
public import Idealize.ShloMosaic.Lib.Routing.OpsSet

@[expose] public section

set_option maxRecDepth 16384

noncomputable section

namespace Cert.ReferenceIdeal.Hand

open Cert.ReferenceIdeal Cert.ReferenceIdeal.Gen Cert.Pick
open Idealize.ShloMosaic Idealize.ShloMosaic.TcCoe Idealize.ShloMosaic.Tactic

/-- The router's logits. -/
def logitsV (cyc : FVec Ideal S32x1 .f32) (dkp : FVec Ideal S32x4096 .f32) (w1 : FVec Ideal S4097x2048 .f32) (b1 : FVec Ideal S2048 .f32)
    (w2 : FVec Ideal S2048x8 .f32) (b2 : FVec Ideal S8 .f32) : FVec Ideal S32x8 .f32 :=
  addf (Host.dotGeneral dot_S32x2048_S2048x8_S32x8_1_0_0_1_n_n none (maximumf (addf (Host.dotGeneral dot_S32x4097_S4097x2048_S32x2048_1_0_0_1_n_n none
    (concatenate S32x4097 1 [⟨S32x4096, dkp⟩, ⟨S32x1, cyc⟩] concatenates_S32x4096_S32x1_S32x4097_d1) w1)
    (broadcastInDim S32x2048 ![0, 1] bcast_S1x2048_S32x2048_0_1 (broadcastInDim S1x2048 ![1] bcast_S2048_S1x2048_1 b1)))
    (broadcastInDim S32x2048 ![] bcast_S_S32x2048 (constant S_ .f32 0x00000000#32))) w2)
    (broadcastInDim S32x8 ![0, 1] bcast_S1x8_S32x8_0_1 (broadcastInDim S1x8 ![1] bcast_S8_S1x8_1 b2))

/-- The places of the two greatest. -/
def placesV (L : FVec Ideal S32x8 .f32) : IVec S32x2 32 := (Host.topK S32x2 1 (FloatOps.cmpfTotal .gt) L sliceFits_S32x8_S32x2).2

/-- The places' index pairs, a sample's row first. -/
def pairsV (I : IVec S32x2 32) : IVec S32x2x2 32 :=
  concatenate S32x2x2 2 [⟨S32x2x1, (broadcastInDim S32x2x1 ![0, 1] bcast_S32x2_S32x2x1_0_1 (broadcastInDim S32x2 ![0, 1] bcast_S32x1_S32x2_0_1
    (select (cmpi .slt (broadcastInDim S32x1 ![0] bcast_S32_S32x1_0 (iotaInDim S32 32 0)) (broadcastInDim S32x1 ![] bcast_S_S32x1 (constantI S_ 32 0#32)))
      (addi (broadcastInDim S32x1 ![0] bcast_S32_S32x1_0 (iotaInDim S32 32 0)) (broadcastInDim S32x1 ![] bcast_S_S32x1 (constantI S_ 32 32#32)))
      (broadcastInDim S32x1 ![0] bcast_S32_S32x1_0 (iotaInDim S32 32 0)))))⟩,
    ⟨S32x2x1, (broadcastInDim S32x2x1 ![0, 1] bcast_S32x2_S32x2x1_0_1 (select (cmpi .slt I (broadcastInDim S32x2 ![] bcast_S_S32x2 (constantI S_ 32 0#32)))
      (addi I (broadcastInDim S32x2 ![] bcast_S_S32x2 (constantI S_ 32 8#32))) I))⟩] concatenates_S32x2x1_S32x2x1_S32x2x2_d2

/-- One at the pairs, zero elsewhere. -/
def maskV (P : IVec S32x2x2 32) : IVec S32x8 1 :=
  Host.scatter scatter_S32x8_S32x2x2_S32x2_n_01_01_2 (fun _ b => b) (broadcastInDim S32x8 ![] bcast_S_S32x8 (constantI S_ 1 0#1)) P
    (broadcastInDim S32x2 ![] bcast_S_S32x2 (constantI S_ 1 1#1))

/-- The shares of the logits. -/
def sharesV (L : FVec Ideal S32x8 .f32) : FVec Ideal S32x8 .f32 :=
  Host.divf (Host.exp (subf L (broadcastInDim S32x8 ![0, 1] bcast_S32x1_S32x8_0_1 (broadcastInDim S32x1 ![0] bcast_S32_S32x1_0
    (maximumf (broadcastInDim S32 ![] bcast_S_S32 (constant S_ .f32 0xFF800000#32)) (Host.reduce FloatOps.maximumf L (constant S_ .f32 0xFF800000#32) reducesTo_S32x8_S32_d1 h_S_))))))
    (broadcastInDim S32x8 ![0, 1] bcast_S32x1_S32x8_0_1 (broadcastInDim S32x1 ![0] bcast_S32_S32x1_0
      (Host.reduceAdd (Host.exp (subf L (broadcastInDim S32x8 ![0, 1] bcast_S32x1_S32x8_0_1 (broadcastInDim S32x1 ![0] bcast_S32_S32x1_0
    (maximumf (broadcastInDim S32 ![] bcast_S_S32 (constant S_ .f32 0xFF800000#32)) (Host.reduce FloatOps.maximumf L (constant S_ .f32 0xFF800000#32) reducesTo_S32x8_S32_d1 h_S_))))))
    (constant S_ .f32 0x00000000#32) reducesTo_S32x8_S32_d1 h_S_)))

/-- The gates, of the masked shares. -/
def gatesV (S : FVec Ideal S32x8 .f32) : FVec Ideal S32x8 .f32 :=
  Host.divf S (broadcastInDim S32x8 ![0, 1] bcast_S32x1_S32x8_0_1 (addf (broadcastInDim S32x1 ![0] bcast_S32_S32x1_0
    (Host.reduceAdd S (constant S_ .f32 0x00000000#32) reducesTo_S32x8_S32_d1 h_S_)) (broadcastInDim S32x1 ![] bcast_S_S32x1 (constant S_ .f32 0x3089705F#32))))

/-- The result, of the gates and the experts' arrays. -/
def mixedV (x : FVec Ideal S32x64x3x128 .f32) (we : FVec Ideal S8x384x1024 .f32) (be : FVec Ideal S8x1024 .f32) (wg : FVec Ideal S384x1024 .f32)
    (bg : FVec Ideal S1024 .f32) (G : FVec Ideal S32x8 .f32) : FVec Ideal S32x64x1024 .f32 :=
  addf (addf (Host.dotGeneral dot_S32x64x384_S384x1024_S32x64x1024_2_0_01_1_n_n none (shapeCast _ x shapeCasts_S32x64x3x128_S32x64x384) wg)
      (broadcastInDim S32x64x1024 ![0, 1, 2] bcast_S1x1x1024_S32x64x1024_0_1_2 (broadcastInDim S1x1x1024 ![2] bcast_S1024_S1x1x1024_2 bg)))
    (extf .f32 (truncf .bf16 (Host.dotGeneral dot_S8x32x64x1024_S32x8_S32x64x1024_0_1_23_n_1_0 none
      (addf (transpose S8x32x64x1024 [0, 2, 3, 1] (Host.dotGeneral dot_S8x384x1024_S32x64x384_S8x1024x32x64_1_2_02_01_n_n none we
          (shapeCast _ x shapeCasts_S32x64x3x128_S32x64x384)) transposes_S8x1024x32x64_S8x32x64x1024_0_2_3_1)
        (broadcastInDim S8x32x64x1024 ![0, 1, 2, 3] bcast_S8x1x1x1024_S8x32x64x1024_0_1_2_3 (broadcastInDim S8x1x1x1024 ![0, 3] bcast_S8x1024_S8x1x1x1024_0_3 be)))
      G) bitsLt_bf16_f32) bitsLt_bf16_f32)

theorem res_eq (m : (ℓ : Loc nD τ sig) → Buf (Elt Ideal) ℓ) (c : Dev nD) : Cert.ReferenceIdeal.Value.res_main_v62 m c
    = mixedV (m ((c.tc : Thread nD τ).loc main_arg0)) (m ((c.tc : Thread nD τ).loc main_arg7)) (m ((c.tc : Thread nD τ).loc main_arg8))
        (m ((c.tc : Thread nD τ).loc main_arg9)) (m ((c.tc : Thread nD τ).loc main_arg10))
        (gatesV (mulf (sharesV (logitsV (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))))
          (uitofp .f32 (maskV (pairsV (placesV (logitsV (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))))))))) := rfl

variable (cyc : FVec Ideal S32x1 .f32) (dkp : FVec Ideal S32x4096 .f32) (w1 : FVec Ideal S4097x2048 .f32) (b1 : FVec Ideal S2048 .f32)
    (w2 : FVec Ideal S2048x8 .f32) (b2 : FVec Ideal S8 .f32) (L S : FVec Ideal S32x8 .f32) (I : IVec S32x2 32) (P : IVec S32x2x2 32) (b : Fin 32)

theorem logitsV_at (e : Fin 8) : logitsV cyc dkp w1 b1 w2 b2 (ix2 b e)
    = ∑ x : Fin 2048, max ((∑ k : Fin 4096, dkp (ix2 b k) * w1 (ix2 ⟨k.val, by omega⟩ x)) + cyc (ix2 b 0) * w1 (ix2 4096 x) + b1 (ix1 x)) 0
        * w2 (ix2 x e) + b2 (ix1 e) := by
  pointwise [logitsV]
  simp only [Finset.sum_const, Finset.card_univ, Fintype.card_fin, one_smul]

theorem sharesV_at (e : Fin 8) : sharesV L (ix2 b e) = share (fun e => L (ix2 b e)) e := by
  unfold share top
  pointwise [sharesV]
  simp only [ofBits_neg_inf, bot_sup_eq, max_bot_left]

theorem gatesV_at (e : Fin 8) : gatesV S (ix2 b e) = Ideal.div (S (ix2 b e)) ((∑ x : Fin 8, S (ix2 b x)) + Ideal.ofBits .f32 0x3089705F#32) := by
  pointwise [gatesV]

theorem pairsV_at0 (j : Fin 2) : pairsV I (ix3 b j 0) = BitVec.ofNat 32 b.val := by
  pointwise [pairsV]
  exact (by decide : ∀ b : Fin 32, Scalar.select (IntOp.cmpi .slt (BitVec.ofNat 32 b.val) 0#32) (IntOp.addi (BitVec.ofNat 32 b.val) 32#32)
    (BitVec.ofNat 32 b.val) = BitVec.ofNat 32 b.val) b

theorem pairsV_at1 (j : Fin 2) (a : Fin 8) (ha : I (ix2 b j) = BitVec.ofNat 32 a.val) : pairsV I (ix3 b j 1) = BitVec.ofNat 32 a.val := by
  pointwise [pairsV]
  rw [ha]
  exact (by decide : ∀ a : Fin 8, Scalar.select (IntOp.cmpi .slt (BitVec.ofNat 32 a.val) 0#32) (IntOp.addi (BitVec.ofNat 32 a.val) 8#32)
    (BitVec.ofNat 32 a.val) = BitVec.ofNat 32 a.val) a

theorem placesV_at (j : Fin 2) : placesV L (ix2 b j)
    = BitVec.ofNat 32 (sortedFrom (fun x y : Fin 8 => decide (L (ix2 b y) < L (ix2 b x))) ⟨j.val, by omega⟩).val := by
  have hJ : ∀ j' : Fin 8, (Host.sort2 S32x8 1 (fun l r => FloatOps.cmpfTotal (F := Ideal) (φ := .f32) .gt l.1 r.1) L
      (fun i => if hd : 1 < S32x8.rank then iotaInDim S32x8 32 ⟨1, hd⟩ i else 0#32)).2 (ix2 b j')
      = BitVec.ofNat 32 (sortedFrom (fun x y : Fin 8 => decide (L (ix2 b y) < L (ix2 b x))) j').val := by
    intro j'
    have hu : ∀ z : Fin 8, Shape.Idx.along (s := S32x8) (ix2 b j') (1 : Fin 2) z = ix2 b z := by
      intro z; funext k; fin_cases k <;> rfl
    show BitVec.ofNat 32 (Shape.Idx.along (s := S32x8) (ix2 b j') (1 : Fin 2) (sortedFrom (n := 8) (fun x y => FloatOps.cmpfTotal (F := Ideal) (φ := .f32) .gt
      (L (Shape.Idx.along (s := S32x8) (ix2 b j') (1 : Fin 2) x)) (L (Shape.Idx.along (s := S32x8) (ix2 b j') (1 : Fin 2) y)) == 1#1) j') (1 : Fin 2)).val = _
    rw [hu]
    show BitVec.ofNat 32 (sortedFrom (n := 8) _ j').val = _
    refine congrArg (fun R => BitVec.ofNat 32 (sortedFrom (n := 8) R j').val) ?_
    funext x y
    rw [hu, hu]
    show (BitVec.ofBool (decide (L (ix2 b y) < L (ix2 b x))) == 1#1) = _
    cases decide (L (ix2 b y) < L (ix2 b x)) <;> rfl
  refine Eq.trans ?_ (hJ ⟨j.val, by omega⟩)
  unfold placesV
  refine congrArg (Host.sort2 S32x8 1 (fun l r => FloatOps.cmpfTotal (F := Ideal) (φ := .f32) .gt l.1 r.1) L
      (fun i => if hd : 1 < S32x8.rank then iotaInDim S32x8 32 ⟨1, hd⟩ i else 0#32)).2 ?_
  funext k; fin_cases k
  · exact Fin.ext (Nat.zero_add _)
  · exact Fin.ext (Nat.zero_add _)

theorem mixedV_at (x : FVec Ideal S32x64x3x128 .f32) (we : FVec Ideal S8x384x1024 .f32) (be : FVec Ideal S8x1024 .f32) (wg : FVec Ideal S384x1024 .f32)
    (bg : FVec Ideal S1024 .f32) (G : FVec Ideal S32x8 .f32) (s : Fin 64) (d : Fin 1024) : mixedV x we be wg bg G (ix3 b s d)
    = (∑ k : Fin 384, x (ix4 b s ⟨k.val / 128, by omega⟩ ⟨k.val % 128, by omega⟩) * wg (ix2 k d)) + bg (ix1 d)
      + ∑ e : Fin 8, ((∑ k : Fin 384, we (ix3 e k d) * x (ix4 b s ⟨k.val / 128, by omega⟩ ⟨k.val % 128, by omega⟩)) + be (ix2 e d)) * G (ix2 b e) := by
  pointwise [mixedV]

/-- The mask of two places. -/
theorem maskV_at (a : Fin 32 → Fin 2 → Fin 8) (ha : ∀ b j, P (ix3 b j 0) = BitVec.ofNat 32 b.val ∧ P (ix3 b j 1) = BitVec.ofNat 32 (a b j).val)
    (e : Fin 8) : maskV P (ix2 b e) = if e = a b 0 ∨ e = a b 1 then 1#1 else 0#1 := by
  have hlands : ∀ (b' : Fin 32) (j : Fin 2), scatter_S32x8_S32x2x2_S32x2_n_01_01_2.resultIdx? (ix2 b' j) P = some (ix2 b e) ↔ b' = b ∧ a b' j = e := by
    intro b' j
    refine (Routing.scatter_lands2 scatter_S32x8_S32x2x2_S32x2_n_01_01_2 rfl rfl rfl P b' j b e).trans ?_
    have h0 : P (ValueIdx.ix3 b' j 0) = BitVec.ofNat 32 b'.val := (congrArg P (by funext q; fin_cases q <;> rfl)).trans (ha b' j).1
    have h1 : P (ValueIdx.ix3 b' j 1) = BitVec.ofNat 32 (a b' j).val := (congrArg P (by funext q; fin_cases q <;> rfl)).trans (ha b' j).2
    rw [h0, h1,
      (by decide : ∀ b : Fin 32, (BitVec.ofNat 32 b.val).toInt = (b.val : ℤ)) b', (by decide : ∀ b : Fin 8, (BitVec.ofNat 32 b.val).toInt = (b.val : ℤ)) (a b' j),
      Nat.cast_inj, Nat.cast_inj, Fin.val_inj, Fin.val_inj]
  unfold maskV
  split_ifs with h
  · have key : ∃ j, a b j = e := by
      rcases h with h | h
      · exact ⟨0, h.symm⟩
      · exact ⟨1, h.symm⟩
    obtain ⟨j, hj⟩ := key
    exact Routing.scatter_set_hit _ _ _ _ _ _ (fun k _ => rfl) (ix2 b j) ((hlands b j).2 ⟨rfl, hj⟩)
  · refine (Routing.scatter_set_miss _ _ _ _ _ (fun k hk => h ?_)).trans rfl
    obtain ⟨b', j, rfl⟩ : ∃ (b' : Fin 32) (j : Fin 2), k = ix2 b' j := ⟨k 0, k 1, by funext q; fin_cases q <;> rfl⟩
    obtain ⟨rfl, hj⟩ := (hlands b' j).1 hk
    fin_cases j
    · exact .inl hj.symm
    · exact .inr hj.symm

/-- The result of the reference at an index, from the places of a sample's two greatest logits. -/
theorem result_at (x : FVec Ideal S32x64x3x128 .f32) (we : FVec Ideal S8x384x1024 .f32) (be : FVec Ideal S8x1024 .f32) (wg : FVec Ideal S384x1024 .f32)
    (bg : FVec Ideal S1024 .f32) (s : Fin 64) (d : Fin 1024) (hb : ∀ e : Fin 8, L (ix2 b e) ≠ ⊥) (ht : ∀ e : Fin 8, L (ix2 b e) ≠ ⊤) (a a' : Fin 8)
    (ha : First (fun e => L (ix2 b e)) a) (ha' : Second (fun e => L (ix2 b e)) a a') (A : Fin 8 → EReal)
    (hA : ∀ e, A e = (∑ k : Fin 384, we (ix3 e k d) * x (ix4 b s ⟨k.val / 128, by omega⟩ ⟨k.val % 128, by omega⟩)) + be (ix2 e d))
    (q : EReal) (hq : q = share (fun e => L (ix2 b e)) a + share (fun e => L (ix2 b e)) a' + Ideal.ofBits .f32 0x3089705F#32) :
    mixedV x we be wg bg (gatesV (mulf (sharesV L) (uitofp .f32 (maskV (pairsV (placesV L)))))) (ix3 b s d)
      = (∑ k : Fin 384, x (ix4 b s ⟨k.val / 128, by omega⟩ ⟨k.val % 128, by omega⟩) * wg (ix2 k d)) + bg (ix1 d)
        + (A a * Ideal.div (share (fun e => L (ix2 b e)) a) q + A a' * Ideal.div (share (fun e => L (ix2 b e)) a') q) := by
  have hp : ∀ (b : Fin 32) (j : Fin 2), pairsV (placesV L) (ix3 b j 0) = BitVec.ofNat 32 b.val ∧ pairsV (placesV L) (ix3 b j 1)
      = BitVec.ofNat 32 (sortedFrom (fun x y : Fin 8 => decide (L (ix2 b y) < L (ix2 b x))) ⟨j.val, by omega⟩).val :=
    fun b j => ⟨pairsV_at0 _ b j, pairsV_at1 _ b j _ (placesV_at L b j)⟩
  obtain ⟨f1, f2⟩ := sorted_first_second fun e => L (ix2 b e)
  have e1 := ha.unique f1
  have e2 := ha'.unique (e1.symm ▸ f2)
  have hm : ∀ e : Fin 8, maskV (pairsV (placesV L)) (ix2 b e) = if e = a ∨ e = a' then 1#1 else 0#1 := fun e =>
    (maskV_at _ b _ hp e).trans (by rw [e1, e2]; rfl)
  have hk : ∀ e : Fin 8, (uitofp (F := Ideal) .f32 (maskV (pairsV (placesV L))) (ix2 b e) : EReal) = if e = a ∨ e = a' then 1 else 0 := fun e => by
    show (((maskV (pairsV (placesV L)) (ix2 b e)).toNat : ℝ) : EReal) = _
    rw [hm]
    split_ifs
    · show (((1 : ℕ) : ℝ) : EReal) = 1
      rw [Nat.cast_one]; rfl
    · show (((0 : ℕ) : ℝ) : EReal) = 0
      rw [Nat.cast_zero]; rfl
  have hS : ∀ e : Fin 8, mulf (sharesV L) (uitofp .f32 (maskV (pairsV (placesV L)))) (ix2 b e)
      = share (fun e => L (ix2 b e)) e * (uitofp (F := Ideal) .f32 (maskV (pairsV (placesV L))) (ix2 b e) : EReal) := fun e => by
    rw [← sharesV_at]; rfl
  rw [mixedV_at]
  refine congrArg₂ (fun (p q : EReal) => p + q) rfl ?_
  rw [hq, ← gated_sum hb ht ha'.1 A _ hk _ rfl]
  refine Finset.sum_congr rfl fun e _ => ?_
  rw [hA, gatesV_at]
  simp only [hS]

end Cert.ReferenceIdeal.Hand
-- ==== Proof.Finite.lean ====
/-
  What the precondition says of the gate's inputs over the reals, and that the logits are then finite.
-/
module

public import proofs.«01_k».proof.Defs
public import proofs.«01_k».proof.Proof.Gen.Pre_gate_finite
public import Idealize.ShloMosaic.Lib.ReduceAll
public import Idealize.ShloMosaic.Lib.Pipeline.ValueKit

@[expose] public section

set_option maxRecDepth 16384

noncomputable section

namespace Cert.Gate

open Cert.Pre_gate_finite
open Idealize.ShloMosaic Idealize.ShloMosaic.TcCoe Idealize.ShloMosaic.Tactic

/-- A number that is neither infinity. -/
def Finite (x : EReal) : Prop := ∃ r : ℝ, x = (r : EReal)

theorem Finite.add {x y : EReal} (hx : Finite x) (hy : Finite y) : Finite (x + y) := by
  obtain ⟨a, rfl⟩ := hx; obtain ⟨b, rfl⟩ := hy
  exact ⟨a + b, (EReal.coe_add a b).symm⟩

theorem Finite.mul {x y : EReal} (hx : Finite x) (hy : Finite y) : Finite (x * y) := by
  obtain ⟨a, rfl⟩ := hx; obtain ⟨b, rfl⟩ := hy
  exact ⟨a * b, (EReal.coe_mul a b).symm⟩

theorem Finite.zero : Finite 0 := ⟨0, rfl⟩

theorem Finite.max {x y : EReal} (hx : Finite x) (hy : Finite y) : Finite (max x y) := by
  rcases max_choice x y with h | h <;> rw [h] <;> assumption

theorem Finite.sum {n : ℕ} {f : Fin n → EReal} (h : ∀ k, Finite (f k)) : Finite (∑ k, f k) :=
  Finset.sum_induction f Finite (fun _ _ => Finite.add) Finite.zero fun k _ => h k

theorem Finite.ne_bot {x : EReal} (h : Finite x) : x ≠ ⊥ := by obtain ⟨a, rfl⟩ := h; exact EReal.coe_ne_bot a
theorem Finite.ne_top {x : EReal} (h : Finite x) : x ≠ ⊤ := by obtain ⟨a, rfl⟩ := h; exact EReal.coe_ne_top a

theorem ofBits_inf : Ideal.ofBits .f32 0x7F800000#32 = ⊤ := by
  simp [Ideal.ofBits, Ideal.ieee]

/-- A number whose absolute value is below infinity. -/
theorem finite_of_abs {x : EReal} (h : max x (-x) < ⊤) : Finite x := by
  induction x with
  | bot => simp at h
  | top => simp at h
  | coe r => exact ⟨r, rfl⟩

instance : Subsingleton S_.Idx := ⟨fun a b => funext fun k => k.elim0⟩

/-- One array of the precondition: where its test is true, each element is finite. -/
theorem finite_of_test {s : Shape} {axes : List (Fin s.rank)} (x : FVec Ideal s .f32) (d : Fin 0 → Fin s.rank) (hb : S_.BroadcastsInDim s d)
    (hr : s.ReducesTo axes S_) (hu : 0 < S_.numel) (j : S_.Idx)
    (e : Host.reduce IntOp.andi (cmpf .olt (Host.absf x) (broadcastInDim s d hb (constant (F := Ideal) S_ .f32 0x7F800000#32))) (constantI S_ 1 1#1) hr hu j = 1#1)
    (i : s.Idx) : Finite (x i) := by
  have h : Ideal.cmp .olt (max (x i) (-(x i))) (Ideal.ofBits .f32 0x7F800000#32) = 1#1 := Host.reduce_andi_all _ _ hr hu j e i
  rw [ofBits_inf] at h
  refine finite_of_abs ?_
  by_contra hn
  rw [show Ideal.cmp .olt (max (x i) (-(x i))) ⊤ = BitVec.ofBool (decide (max (x i) (-(x i)) < ⊤)) from rfl, decide_eq_false hn] at h
  exact absurd h (by decide)

variable [hfacts : Facts]

theorem finite_args (x0 : FVec Ideal S32x64x3x128 .f32) (cyc : FVec Ideal S32x1 .f32) (dkp : FVec Ideal S32x4096 .f32) (w1 : FVec Ideal S4097x2048 .f32)
    (b1 : FVec Ideal S2048 .f32) (w2 : FVec Ideal S2048x8 .f32) (b2 : FVec Ideal S8 .f32) (x7 : FVec Ideal S8x384x1024 .f32)
    (x8 : FVec Ideal S8x1024 .f32) (x9 : FVec Ideal S384x1024 .f32) (x10 : FVec Ideal S1024 .f32)
    (h : fn (F := Ideal) x0 cyc dkp w1 b1 w2 b2 x7 x8 x9 x10 = fun _ => 1#1) :
    (∀ i, Finite (cyc i)) ∧ (∀ i, Finite (dkp i)) ∧ (∀ i, Finite (w1 i)) ∧ (∀ i, Finite (b1 i)) ∧ (∀ i, Finite (w2 i)) ∧ ∀ i, Finite (b2 i) := by
  have h0 := congrFun h ix0
  unfold fn fn_part1 at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e1, e2⟩ := IntOp.andi_eq_one.mp h0
  exact ⟨finite_of_test _ _ _ _ _ _ e1, finite_of_test _ _ _ _ _ _ e2, finite_of_test _ _ _ _ _ _ e3, finite_of_test _ _ _ _ _ _ e4,
    finite_of_test _ _ _ _ _ _ e5, finite_of_test _ _ _ _ _ _ e6⟩

end Cert.Gate

end
-- ==== Proof.Value.lean ====
/-
  The kernel's result is the reference's: over the reals, where the gate's inputs are finite.
-/
module

public import proofs.«01_k».proof.Proof.Result
public import proofs.«01_k».proof.Proof.Ref
public import proofs.«01_k».proof.Proof.Finite

@[expose] public section

set_option maxRecDepth 16384

noncomputable section

namespace Cert.KernelIdeal.Hand

open Cert.KernelIdeal Cert.KernelIdeal.Gen Cert.Pick
open Cert.ReferenceIdeal.Hand (logitsV logitsV_at mixedV gatesV sharesV maskV pairsV placesV result_at)
open Idealize.ShloMosaic Idealize.ShloMosaic.TcCoe Idealize.ShloMosaic.Tactic

variable (m : (ℓ : Loc nD τ sig) → Buf (Elt Ideal) ℓ) (c : Dev nD)

/-- The logits of all samples, as the reference computes them from the kernel's arguments. -/
abbrev refLogits : FVec Ideal S32x8 .f32 := logitsV (aCyc m c) (aDkp m c) (aW1 m c) (aB1 m c) (aW2 m c) (aB2 m c)

/-- The kernel computes the same logits. -/
theorem logits_same (b : Fin 32) (e : Fin 8) :
    logits (w1 m c (pt 3)) (firstRow (w3 m c (pt 3))) (accAt m c 3) (w4 m c (pt 3)) (w5 m c (pt 3)) (w6 m c (pt 3)) b e = refLogits m c (ix2 b e) := by
  refine (logits_eq _ _ _ _ _ _ b e).trans (Eq.trans ?_ (logitsV_at _ _ _ _ _ _ b e).symm)
  refine congrArg₂ (fun p q : EReal => p + q) (Finset.sum_congr rfl fun x _ => ?_) (w6_at m c (pt 3) 0 e)
  refine congrArg₂ (fun p q : EReal => p * q) ?_ (w5_at m c (pt 3) x e)
  refine congrArg (fun p : EReal => max p 0) ?_
  refine congrArg₂ (fun p q : EReal => p + q) (congrArg₂ (fun p q : EReal => p + q) (accAt_at m c b x) ?_) (w4_at m c (pt 3) 0 x)
  exact congrArg₂ (fun p q : EReal => p * q) (w1_at m c (pt 3) b 0) (w3_at m c (pt 3) (by decide) 0 x 4096 (by decide))

open Cert.Gate in
theorem logits_finite (hc : ∀ i, Finite (aCyc m c i)) (hk : ∀ i, Finite (aDkp m c i)) (h1 : ∀ i, Finite (aW1 m c i)) (hb1 : ∀ i, Finite (aB1 m c i))
    (h2 : ∀ i, Finite (aW2 m c i)) (hb2 : ∀ i, Finite (aB2 m c i)) (b : Fin 32) (e : Fin 8) : Finite (refLogits m c (ix2 b e)) := by
  rw [show refLogits m c (ix2 b e) = _ from logitsV_at _ _ _ _ _ _ b e]
  refine (Finite.sum fun x => ?_).add (hb2 _)
  exact (((((Finite.sum fun k => (hk _).mul (h1 _)).add ((hc _).mul (h1 _))).add (hb1 _)).max Finite.zero)).mul (h2 _)

/-- The reference's result, from the kernel's arguments. -/
def refOut : Vec Ideal S32x64x1024 .f32 :=
  mixedV (aX m c) (aWe m c) (aBe m c) (aWg m c) (aBg m c)
    (gatesV (mulf (sharesV (refLogits m c)) (uitofp .f32 (maskV (pairsV (placesV (refLogits m c)))))))

open Cert.Gate in
theorem out_same (hf : ∀ b e, Finite (refLogits m c (ix2 b e))) : outArr m c = refOut m c := by
  funext i
  obtain ⟨b, s, d, rfl⟩ : ∃ (b : Fin 32) (s : Fin 64) (d : Fin 1024), i = ix3 b s d := ⟨i 0, i 1, i 2, by funext k; fin_cases k <;> rfl⟩
  obtain ⟨a, a', ha, ha', p0, p1, p2, p3⟩ := pack_words (w1 m c (pt 3)) (firstRow (w3 m c (pt 3))) (accAt m c 3) (w4 m c (pt 3)) (w5 m c (pt 3)) (w6 m c (pt 3)) b
  have hl : logits (w1 m c (pt 3)) (firstRow (w3 m c (pt 3))) (accAt m c 3) (w4 m c (pt 3)) (w5 m c (pt 3)) (w6 m c (pt 3)) b
      = fun e => refLogits m c (ix2 b e) := funext fun e => logits_same m c b e
  rw [hl] at ha ha' p2 p3
  have hs : Second (fun e => refLogits m c (ix2 b e)) a a' := second_of_masked (fun e => (hf b e).ne_bot) a a' ha'
  have hr := result_at (refLogits m c) b (aX m c) (aWe m c) (aBe m c) (aWg m c) (aBg m c) s d (fun e => (hf b e).ne_bot) (fun e => (hf b e).ne_top)
    a a' ha hs _ (fun e => rfl) _ rfl
  refine Eq.trans ?_ hr.symm
  have ho : outArr m c (ix3 b s d) = sampleOut (packAll m c) (xAll m c) (weAll m c) (yAll m c) (w10 m c (pt (4 + b.val / 8))) (w11 m c (pt (4 + b.val / 8))) b.val (ix3 0 s d) := by
    have ht : (pt (4 + b.val / 8)).val = 4 + b.val / 8 := Nat.mod_eq_of_lt (by omega)
    have hc := (idx_out (pt (4 + b.val / 8)) (by omega)).2
    show sampleOut _ _ _ _ _ _ (8 * ((grid0.coords (pt (4 + b.val / 8)) 0).val - 4) + b.val % 8) _ = _
    rw [hc, ht, show 8 * (4 + b.val / 8 - 4) + b.val % 8 = b.val by omega]
    rfl
  rw [ho, sample_at m c b s d a a' _ _ _ p0 p1 p2 p3]
  unfold blend
  rw [add_assoc]
  refine congrArg₂ (fun p q : EReal => p + q) rfl ?_
  have hA : ∀ e : Fin 8, (∑ k : Fin 384, aX m c (ix4 b s ⟨k.val / 128, by omega⟩ ⟨k.val % 128, by omega⟩) * aWe m c (ix3 e k d))
      = ∑ k : Fin 384, aWe m c (ix3 e k d) * aX m c (ix4 b s ⟨k.val / 128, by omega⟩ ⟨k.val % 128, by omega⟩) := fun e =>
    Finset.sum_congr rfl fun k _ => mul_comm _ _
  rw [hA a, hA a']
  exact congrArg₂ (fun p q : EReal => p + q) (mul_comm _ _) (mul_comm _ _)

end Cert.KernelIdeal.Hand

end
-- ==== Proof.Claims.lean ====
/-
  The claims of this problem, each from the modules that prove it: the two frames, and that over the reals the kernel computes what
  the reference computes when the gate's inputs are finite.
-/
module

public import proofs.«01_k».proof.Proof.Frames
public import proofs.«01_k».proof.Proof.Value

@[expose] public section

noncomputable section

namespace Cert.Claims

open Idealize.ShloMosaic Idealize.SL.Sem

/-- Where the arguments agree, the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_gate_finite (hPre_gate_finite := Cert.Pre_gate_finite.Gen.facts) m)
    (h0 : m' ((c.tc : Thread Cert.ReferenceIdeal.nD Cert.ReferenceIdeal.τ).loc Cert.ReferenceIdeal.main_arg0) = Cert.KernelIdeal.Hand.aX m c)
    (h1 : m' ((c.tc : Thread Cert.ReferenceIdeal.nD Cert.ReferenceIdeal.τ).loc Cert.ReferenceIdeal.main_arg1) = Cert.KernelIdeal.Hand.aCyc m c)
    (h2 : m' ((c.tc : Thread Cert.ReferenceIdeal.nD Cert.ReferenceIdeal.τ).loc Cert.ReferenceIdeal.main_arg2) = Cert.KernelIdeal.Hand.aDkp m c)
    (h3 : m' ((c.tc : Thread Cert.ReferenceIdeal.nD Cert.ReferenceIdeal.τ).loc Cert.ReferenceIdeal.main_arg3) = Cert.KernelIdeal.Hand.aW1 m c)
    (h4 : m' ((c.tc : Thread Cert.ReferenceIdeal.nD Cert.ReferenceIdeal.τ).loc Cert.ReferenceIdeal.main_arg4) = Cert.KernelIdeal.Hand.aB1 m c)
    (h5 : m' ((c.tc : Thread Cert.ReferenceIdeal.nD Cert.ReferenceIdeal.τ).loc Cert.ReferenceIdeal.main_arg5) = Cert.KernelIdeal.Hand.aW2 m c)
    (h6 : m' ((c.tc : Thread Cert.ReferenceIdeal.nD Cert.ReferenceIdeal.τ).loc Cert.ReferenceIdeal.main_arg6) = Cert.KernelIdeal.Hand.aB2 m c)
    (h7 : m' ((c.tc : Thread Cert.ReferenceIdeal.nD Cert.ReferenceIdeal.τ).loc Cert.ReferenceIdeal.main_arg7) = Cert.KernelIdeal.Hand.aWe m c)
    (h8 : m' ((c.tc : Thread Cert.ReferenceIdeal.nD Cert.ReferenceIdeal.τ).loc Cert.ReferenceIdeal.main_arg8) = Cert.KernelIdeal.Hand.aBe m c)
    (h9 : m' ((c.tc : Thread Cert.ReferenceIdeal.nD Cert.ReferenceIdeal.τ).loc Cert.ReferenceIdeal.main_arg9) = Cert.KernelIdeal.Hand.aWg m c)
    (h10 : m' ((c.tc : Thread Cert.ReferenceIdeal.nD Cert.ReferenceIdeal.τ).loc Cert.ReferenceIdeal.main_arg10) = Cert.KernelIdeal.Hand.aBg m c) :
    Cert.ReferenceIdeal.Value.res_main_v62 m' c = Cert.KernelIdeal.Hand.outArr m c := by
  have hfin := Cert.Gate.finite_args (hfacts := Cert.Pre_gate_finite.Gen.facts) _ _ _ _ _ _ _ _ _ _ _ (hp c)
  obtain ⟨f1, f2, f3, f4, f5, f6⟩ := hfin
  refine (Cert.ReferenceIdeal.Hand.res_eq m' c).trans ?_
  rw [h0, h1, h2, h3, h4, h5, h6, h7, h8, h9, h10]
  exact (Cert.KernelIdeal.Hand.out_same m c (Cert.KernelIdeal.Hand.logits_finite m c f1 f2 f3 f4 f5 f6)).symm

theorem algebraic : Cert.algebraic_KernelIdeal_ReferenceIdeal_pre_gate_finite (hKernelIdeal := Cert.KernelIdeal.Gen.facts)
    (hReferenceIdeal := Cert.ReferenceIdeal.Gen.facts) (hPre_gate_finite := Cert.Pre_gate_finite.Gen.facts) := by
  intro m g m' g' hp hargs
  refine ⟨fun c => Cert.KernelIdeal.Hand.outArr m c, ?_, ?_⟩
  · refine (θ_run _ _ _).mono (fun r h c => ?_) (Cert.KernelIdeal.Hand.run m g fun c => Cert.KernelIdeal.Hand.routed m c)
    exact ⟨(h.1 c).1.trans (Cert.KernelIdeal.Hand.arr_eq m c), (h.1 c).2⟩
  · refine (θ_run _ _ _).mono (fun r h c => ?_) (Cert.ReferenceIdeal.Value.run m' g')
    obtain ⟨h0, h1, h2, h3, h4, h5, h6, h7, h8, h9, h10⟩ := hargs c
    exact ⟨(h c).1.trans (same m m' c hp h0 h1 h2 h3 h4 h5 h6 h7 h8 h9 h10), (h c).2⟩

end Cert.Claims

end
-- ==== Proof.lean ====
/-
  The claims of this problem, from the modules that prove them.
-/
module

public import proofs.«01_k».proof.Defs
public import proofs.«01_k».proof.Proof.Claims

@[expose] public section

noncomputable section

namespace Cert.Proof

theorem claim : Cert.Claim :=
  ⟨Cert.KernelIdeal.Gen.facts, Cert.ReferenceIdeal.Gen.facts, Cert.Pre_gate_finite.Gen.facts, Cert.Frames.kernel, fun m g _ => Cert.Frames.kernel m g trivial,
    Cert.Frames.reference, fun m g _ => Cert.Frames.reference m g trivial, Cert.Claims.algebraic⟩

end Cert.Proof

end
